-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_well_formed_KernelIdeal [hPre_well_formed_KernelIdeal : Cert.Pre_well_formed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_well_formed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_well_formed_ReferenceIdeal [hPre_well_formed_ReferenceIdeal : Cert.Pre_well_formed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_well_formed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_well_formed_KernelIdeal [hKernelIdeal : Cert.KernelIdeal.Facts] [hPre_well_formed_KernelIdeal : Cert.Pre_well_formed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_well_formed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_well_formed_ReferenceIdeal [hReferenceIdeal : Cert.ReferenceIdeal.Facts] [hPre_well_formed_ReferenceIdeal : Cert.Pre_well_formed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_well_formed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_well_formed_KernelIdeal [hKernelIdeal : Cert.KernelIdeal.Facts] [hReferenceIdeal : Cert.ReferenceIdeal.Facts] [hPre_well_formed_KernelIdeal : Cert.Pre_well_formed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_well_formed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![64, 16, 8, 64]⟩ ⟨4, ![256, 16, 8, 64]⟩ (Layout.meshBlock [2, 4, 4] ![[2], [], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![64, 16, 8, 64]⟩ ⟨4, ![256, 16, 8, 64]⟩ (Layout.meshBlock [2, 4, 4] ![[2], [], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v36) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_well_formed_KernelIdeal : Cert.Pre_well_formed_KernelIdeal.Facts) (hPre_well_formed_ReferenceIdeal : Cert.Pre_well_formed_ReferenceIdeal.Facts),
    quiescent_Kernel (hKernel := hKernel)
    ∧ quiescent_KernelIdeal (hKernelIdeal := hKernelIdeal)
    ∧ quiescent_KernelIdeal_pre_well_formed_KernelIdeal (hKernelIdeal := hKernelIdeal) (hPre_well_formed_KernelIdeal := hPre_well_formed_KernelIdeal)
    ∧ quiescent_ReferenceIdeal (hReferenceIdeal := hReferenceIdeal)
    ∧ quiescent_ReferenceIdeal_pre_well_formed_ReferenceIdeal (hReferenceIdeal := hReferenceIdeal) (hPre_well_formed_ReferenceIdeal := hPre_well_formed_ReferenceIdeal)
    ∧ preserves_Kernel_KernelIdeal
    ∧ algebraic_KernelIdeal_ReferenceIdeal_pre_well_formed_KernelIdeal (hKernelIdeal := hKernelIdeal) (hReferenceIdeal := hReferenceIdeal) (hPre_well_formed_KernelIdeal := hPre_well_formed_KernelIdeal)
-- ==== Pre_well_formed_KernelIdeal.lean ====
abbrev S8x1x8x64 : Shape := ⟨4, ![8, 1, 8, 64]⟩
abbrev S64x16x8x64 : Shape := ⟨4, ![64, 16, 8, 64]⟩
abbrev S8x64 : Shape := ⟨2, ![8, 64]⟩
abbrev S8 : Shape := ⟨1, ![8]⟩
abbrev S8x1 : Shape := ⟨2, ![8, 1]⟩
abbrev S_ : Shape := ⟨0, ![]⟩

class Facts : Prop where
  shapeCasts_S8_S8x1 : S8.ShapeCasts S8x1
  bcast_S8x1_S8x64_0_1 : S8x1.BroadcastsInDim S8x64 (![0, 1] : Fin 2 → Fin S8x64.rank)
  bcast_S_S8x64 : S_.BroadcastsInDim S8x64 (![] : Fin 0 → Fin S8x64.rank)
  bcast_S_S8x1x8x64 : S_.BroadcastsInDim S8x1x8x64 (![] : Fin 0 → Fin S8x1x8x64.rank)
  reducesTo_S8x1x8x64_S_d0_1_2_3 : S8x1x8x64.ReducesTo [0, 1, 2, 3] S_
  h_S_ : 0 < S_.numel
  bcast_S_S64x16x8x64 : S_.BroadcastsInDim S64x16x8x64 (![] : Fin 0 → Fin S64x16x8x64.rank)
  reducesTo_S64x16x8x64_S_d0_1_2_3 : S64x16x8x64.ReducesTo [0, 1, 2, 3] S_
  bcast_S_S8 : S_.BroadcastsInDim S8 (![] : Fin 0 → Fin S8.rank)
  reducesTo_S8_S_d0 : S8.ReducesTo [0] S_
  reducesTo_S8x64_S_d0_1 : S8x64.ReducesTo [0, 1] S_

variable [Facts]

def fn_part1 {F : FTy → Type} [FloatOps F] (main_arg4 : IVec S8 32) (main_v3 : IVec S8x64 1) (main_v8 : IVec S8x64 1) (main_v17 : IVec S_ 1) : IVec S_ 1 :=
  let main_c_4 : IVec S_ 32 := constantI S_ 32 1#32
  let main_v18 : IVec S8 32 := broadcastInDim S8 ![] bcast_S_S8 main_c_4
  let main_v19 : IVec S8 1 := cmpi .sge main_arg4 main_v18
  let main_c_5 : IVec S_ 1 := constantI S_ 1 1#1
  let main_v20 : IVec S_ 1 := (fun x v => Host.reduce IntOp.andi x v reducesTo_S8_S_d0 h_S_) main_v19 main_c_5
  let main_v21 : IVec S_ 1 := andi main_v17 main_v20
  let main_v22 : IVec S8x64 1 := ori main_v3 main_v8
  let main_c_6 : IVec S_ 1 := constantI S_ 1 1#1
  let main_v23 : IVec S_ 1 := (fun x v => Host.reduce IntOp.andi x v reducesTo_S8x64_S_d0_1 h_S_) main_v22 main_c_6
  let main_v24 : IVec S_ 1 := andi main_v21 main_v23
  main_v24

def fn {F : FTy → Type} [FloatOps F] (main_arg0 : FVec F S8x1x8x64 .f32) (main_arg1 : FVec F S64x16x8x64 .f32) (main_arg2 : FVec F S64x16x8x64 .f32) (main_arg3 : IVec S8x64 32) (main_arg4 : IVec S8 32) : IVec S_ 1 :=
  let main_v0 : IVec S8x64 32 := iotaInDim S8x64 32 1
  let main_v1 : IVec S8x1 32 := shapeCast S8x1 main_arg4 shapeCasts_S8_S8x1
  let main_v2 : IVec S8x64 32 := broadcastInDim S8x64 ![0, 1] bcast_S8x1_S8x64_0_1 main_v1
  let main_v3 : IVec S8x64 1 := cmpi .sge main_v0 main_v2
  let main_c : IVec S_ 32 := constantI S_ 32 0#32
  let main_v4 : IVec S8x64 32 := broadcastInDim S8x64 ![] bcast_S_S8x64 main_c
  let main_v5 : IVec S8x64 1 := cmpi .sge main_arg3 main_v4
  let main_c_0 : IVec S_ 32 := constantI S_ 32 256#32
  let main_v6 : IVec S8x64 32 := broadcastInDim S8x64 ![] bcast_S_S8x64 main_c_0
  let main_v7 : IVec S8x64 1 := cmpi .slt main_arg3 main_v6
  let main_v8 : IVec S8x64 1 := andi main_v5 main_v7
  let main_v9 : FVec F S8x1x8x64 .f32 := Host.absf main_arg0
  let main_cst : FVec F S_ .f32 := constant S_ .f32 0x7F800000#32
  let main_v10 : FVec F S8x1x8x64 .f32 := broadcastInDim S8x1x8x64 ![] bcast_S_S8x1x8x64 main_cst
  let main_v11 : IVec S8x1x8x64 1 := cmpf .olt main_v9 main_v10
  let main_c_1 : IVec S_ 1 := constantI S_ 1 1#1
  let main_v12 : IVec S_ 1 := (fun x v => Host.reduce IntOp.andi x v reducesTo_S8x1x8x64_S_d0_1_2_3 h_S_) main_v11 main_c_1
  let main_v13 : FVec F S64x16x8x64 .f32 := Host.absf main_arg1
  let main_cst_2 : FVec F S_ .f32 := constant S_ .f32 0x7F800000#32
  let main_v14 : FVec F S64x16x8x64 .f32 := broadcastInDim S64x16x8x64 ![] bcast_S_S64x16x8x64 main_cst_2
  let main_v15 : IVec S64x16x8x64 1 := cmpf .olt main_v13 main_v14
  let main_c_3 : IVec S_ 1 := constantI S_ 1 1#1
  let main_v16 : IVec S_ 1 := (fun x v => Host.reduce IntOp.andi x v reducesTo_S64x16x8x64_S_d0_1_2_3 h_S_) main_v15 main_c_3
  let main_v17 : IVec S_ 1 := andi main_v12 main_v16
  fn_part1 (F := F) main_arg4 main_v3 main_v8 main_v17
-- ==== Pre_well_formed_ReferenceIdeal.lean ====
abbrev S8x1x8x64 : Shape := ⟨4, ![8, 1, 8, 64]⟩
abbrev S256x16x8x64 : Shape := ⟨4, ![256, 16, 8, 64]⟩
abbrev S8x64 : Shape := ⟨2, ![8, 64]⟩
abbrev S8 : Shape := ⟨1, ![8]⟩
abbrev S8x1 : Shape := ⟨2, ![8, 1]⟩
abbrev S_ : Shape := ⟨0, ![]⟩

class Facts : Prop where
  shapeCasts_S8_S8x1 : S8.ShapeCasts S8x1
  bcast_S8x1_S8x64_0_1 : S8x1.BroadcastsInDim S8x64 (![0, 1] : Fin 2 → Fin S8x64.rank)
  bcast_S_S8x64 : S_.BroadcastsInDim S8x64 (![] : Fin 0 → Fin S8x64.rank)
  bcast_S_S8x1x8x64 : S_.BroadcastsInDim S8x1x8x64 (![] : Fin 0 → Fin S8x1x8x64.rank)
  reducesTo_S8x1x8x64_S_d0_1_2_3 : S8x1x8x64.ReducesTo [0, 1, 2, 3] S_
  h_S_ : 0 < S_.numel
  bcast_S_S256x16x8x64 : S_.BroadcastsInDim S256x16x8x64 (![] : Fin 0 → Fin S256x16x8x64.rank)
  reducesTo_S256x16x8x64_S_d0_1_2_3 : S256x16x8x64.ReducesTo [0, 1, 2, 3] S_
  bcast_S_S8 : S_.BroadcastsInDim S8 (![] : Fin 0 → Fin S8.rank)
  reducesTo_S8_S_d0 : S8.ReducesTo [0] S_
  reducesTo_S8x64_S_d0_1 : S8x64.ReducesTo [0, 1] S_

variable [Facts]

def fn_part1 {F : FTy → Type} [FloatOps F] (main_arg4 : IVec S8 32) (main_v3 : IVec S8x64 1) (main_v8 : IVec S8x64 1) (main_v17 : IVec S_ 1) : IVec S_ 1 :=
  let main_c_4 : IVec S_ 32 := constantI S_ 32 1#32
  let main_v18 : IVec S8 32 := broadcastInDim S8 ![] bcast_S_S8 main_c_4
  let main_v19 : IVec S8 1 := cmpi .sge main_arg4 main_v18
  let main_c_5 : IVec S_ 1 := constantI S_ 1 1#1
  let main_v20 : IVec S_ 1 := (fun x v => Host.reduce IntOp.andi x v reducesTo_S8_S_d0 h_S_) main_v19 main_c_5
  let main_v21 : IVec S_ 1 := andi main_v17 main_v20
  let main_v22 : IVec S8x64 1 := ori main_v3 main_v8
  let main_c_6 : IVec S_ 1 := constantI S_ 1 1#1
  let main_v23 : IVec S_ 1 := (fun x v => Host.reduce IntOp.andi x v reducesTo_S8x64_S_d0_1 h_S_) main_v22 main_c_6
  let main_v24 : IVec S_ 1 := andi main_v21 main_v23
  main_v24

def fn {F : FTy → Type} [FloatOps F] (main_arg0 : FVec F S8x1x8x64 .f32) (main_arg1 : FVec F S256x16x8x64 .f32) (main_arg2 : FVec F S256x16x8x64 .f32) (main_arg3 : IVec S8x64 32) (main_arg4 : IVec S8 32) : IVec S_ 1 :=
  let main_v0 : IVec S8x64 32 := iotaInDim S8x64 32 1
  let main_v1 : IVec S8x1 32 := shapeCast S8x1 main_arg4 shapeCasts_S8_S8x1
  let main_v2 : IVec S8x64 32 := broadcastInDim S8x64 ![0, 1] bcast_S8x1_S8x64_0_1 main_v1
  let main_v3 : IVec S8x64 1 := cmpi .sge main_v0 main_v2
  let main_c : IVec S_ 32 := constantI S_ 32 0#32
  let main_v4 : IVec S8x64 32 := broadcastInDim S8x64 ![] bcast_S_S8x64 main_c
  let main_v5 : IVec S8x64 1 := cmpi .sge main_arg3 main_v4
  let main_c_0 : IVec S_ 32 := constantI S_ 32 256#32
  let main_v6 : IVec S8x64 32 := broadcastInDim S8x64 ![] bcast_S_S8x64 main_c_0
  let main_v7 : IVec S8x64 1 := cmpi .slt main_arg3 main_v6
  let main_v8 : IVec S8x64 1 := andi main_v5 main_v7
  let main_v9 : FVec F S8x1x8x64 .f32 := Host.absf main_arg0
  let main_cst : FVec F S_ .f32 := constant S_ .f32 0x7F800000#32
  let main_v10 : FVec F S8x1x8x64 .f32 := broadcastInDim S8x1x8x64 ![] bcast_S_S8x1x8x64 main_cst
  let main_v11 : IVec S8x1x8x64 1 := cmpf .olt main_v9 main_v10
  let main_c_1 : IVec S_ 1 := constantI S_ 1 1#1
  let main_v12 : IVec S_ 1 := (fun x v => Host.reduce IntOp.andi x v reducesTo_S8x1x8x64_S_d0_1_2_3 h_S_) main_v11 main_c_1
  let main_v13 : FVec F S256x16x8x64 .f32 := Host.absf main_arg1
  let main_cst_2 : FVec F S_ .f32 := constant S_ .f32 0x7F800000#32
  let main_v14 : FVec F S256x16x8x64 .f32 := broadcastInDim S256x16x8x64 ![] bcast_S_S256x16x8x64 main_cst_2
  let main_v15 : IVec S256x16x8x64 1 := cmpf .olt main_v13 main_v14
  let main_c_3 : IVec S_ 1 := constantI S_ 1 1#1
  let main_v16 : IVec S_ 1 := (fun x v => Host.reduce IntOp.andi x v reducesTo_S256x16x8x64_S_d0_1_2_3 h_S_) main_v15 main_c_3
  let main_v17 : IVec S_ 1 := andi main_v12 main_v16
  fn_part1 (F := F) main_arg4 main_v3 main_v8 main_v17
-- ==== Kernel.lean ====
abbrev S8x1x8x64 : Shape := ⟨4, ![8, 1, 8, 64]⟩
abbrev S64x16x8x64 : Shape := ⟨4, ![64, 16, 8, 64]⟩
abbrev S8x64 : Shape := ⟨2, ![8, 64]⟩
abbrev S8 : Shape := ⟨1, ![8]⟩
abbrev S1024x512 : Shape := ⟨2, ![1024, 512]⟩
abbrev S8x1 : Shape := ⟨2, ![8, 1]⟩
abbrev S64x512 : Shape := ⟨2, ![64, 512]⟩
abbrev S128x64 : Shape := ⟨2, ![128, 64]⟩
abbrev S4x128x64 : Shape := ⟨3, ![4, 128, 64]⟩
abbrev S4 : Shape := ⟨1, ![4]⟩
abbrev S_ : Shape := ⟨0, ![]⟩
abbrev S8x64x1 : Shape := ⟨3, ![8, 64, 1]⟩
abbrev S8x64x64 : Shape := ⟨3, ![8, 64, 64]⟩
abbrev S8x1x1 : Shape := ⟨3, ![8, 1, 1]⟩
abbrev S64x1024 : Shape := ⟨2, ![64, 1024]⟩
abbrev S8x1024 : Shape := ⟨2, ![8, 1024]⟩
abbrev S64x8 : Shape := ⟨2, ![64, 8]⟩
abbrev S8x1x1x64 : Shape := ⟨4, ![8, 1, 1, 64]⟩
abbrev S64 : Shape := ⟨1, ![64]⟩
abbrev S64x1 : Shape := ⟨2, ![64, 1]⟩
abbrev S64x64 : Shape := ⟨2, ![64, 64]⟩
abbrev S1 : Shape := ⟨1, ![1]⟩
abbrev S1x128x64 : Shape := ⟨3, ![1, 128, 64]⟩

abbrev nBuf : Space → Nat
  | .hbm => 11
  | .vmem => 9
  | .smem => 0
  | _ => 0

abbrev bufTy : (tb : Table) → Fin (tcTables nBuf tb) → BufTy
  | .hbm, ⟨0, _⟩ => ⟨S8x1x8x64, .f32⟩
  | .hbm, ⟨1, _⟩ => ⟨S64x16x8x64, .f32⟩
  | .hbm, ⟨2, _⟩ => ⟨S64x16x8x64, .f32⟩
  | .hbm, ⟨3, _⟩ => ⟨S8x64, .i32⟩
  | .hbm, ⟨4, _⟩ => ⟨S8, .i32⟩
  | .hbm, ⟨5, _⟩ => ⟨S1024x512, .f32⟩
  | .hbm, ⟨6, _⟩ => ⟨S1024x512, .bf16⟩
  | .hbm, ⟨7, _⟩ => ⟨S1024x512, .f32⟩
  | .hbm, ⟨8, _⟩ => ⟨S1024x512, .bf16⟩
  | .hbm, ⟨9, _⟩ => ⟨S8x1, .i32⟩
  | .hbm, ⟨10, _⟩ => ⟨S8x1x8x64, .f32⟩
  | .local _ .vmem, ⟨0, _⟩ => ⟨S8x1x8x64, .f32⟩
  | .local _ .vmem, ⟨1, _⟩ => ⟨S1024x512, .bf16⟩
  | .local _ .vmem, ⟨2, _⟩ => ⟨S1024x512, .bf16⟩
  | .local _ .vmem, ⟨3, _⟩ => ⟨S8x64, .i32⟩
  | .local _ .vmem, ⟨4, _⟩ => ⟨S8x1, .i32⟩
  | .local _ .vmem, ⟨5, _⟩ => ⟨S8x1x8x64, .f32⟩
  | .local _ .vmem, ⟨6, _⟩ => ⟨S64x512, .f32⟩
  | .local _ .vmem, ⟨7, _⟩ => ⟨S128x64, .f32⟩
  | .local _ .vmem, ⟨8, _⟩ => ⟨S4x128x64, .f32⟩
  | _, _ => ⟨S8x1x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_10 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_9 : BitVec 32 := 16#32
  let v22 : BitVec 32 := Scalar.muli v2 c16_i32_9
  let v23 : BitVec 32 := Scalar.addi c0_i32_10 v22
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_11 : BitVec 32 := 4#32
  let v24 : BitVec 32 := Scalar.muli v5 c4_i32_11
  let v25 : BitVec 32 := Scalar.addi v23 v24
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v11 : BitVec 32 := Scalar.addi v8 c1_i32_2
  let c4_i32_3 : BitVec 32 := 4#32
  let c0_i32 : BitVec 32 := 0#32
  let v12 : BitVec 1 := Scalar.cmpi .eq c4_i32_3 c0_i32
  let c1_i32_4 : BitVec 32 := 1#32
  let v13 : BitVec 32 := Scalar.select v12 c1_i32_4 c4_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c1_i32_12 : BitVec 32 := 1#32
  let v26 : BitVec 32 := Scalar.muli v21 c1_i32_12
  let v27 : BitVec 32 := Scalar.addi v25 v26
  v27.toNat
def k0_dev2 (d0 : Dev nD) : Nat :=
  let c0_i32_22 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_21 : BitVec 32 := 16#32
  let v39 : BitVec 32 := Scalar.muli v2 c16_i32_21
  let v40 : BitVec 32 := Scalar.addi c0_i32_22 v39
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_23 : BitVec 32 := 4#32
  let v41 : BitVec 32 := Scalar.muli v5 c4_i32_23
  let v42 : BitVec 32 := Scalar.addi v40 v41
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_13 : BitVec 32 := 2#32
  let v28 : BitVec 32 := Scalar.addi v8 c2_i32_13
  let c4_i32_14 : BitVec 32 := 4#32
  let c0_i32_15 : BitVec 32 := 0#32
  let v29 : BitVec 1 := Scalar.cmpi .eq c4_i32_14 c0_i32_15
  let c1_i32_16 : BitVec 32 := 1#32
  let v30 : BitVec 32 := Scalar.select v29 c1_i32_16 c4_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c1_i32_24 : BitVec 32 := 1#32
  let v43 : BitVec 32 := Scalar.muli v38 c1_i32_24
  let v44 : BitVec 32 := Scalar.addi v42 v43
  v44.toNat
def k0_dev3 (d0 : Dev nD) : Nat :=
  let c0_i32_33 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_32 : BitVec 32 := 16#32
  let v56 : BitVec 32 := Scalar.muli v2 c16_i32_32
  let v57 : BitVec 32 := Scalar.addi c0_i32_33 v56
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_34 : BitVec 32 := 4#32
  let v58 : BitVec 32 := Scalar.muli v5 c4_i32_34
  let v59 : BitVec 32 := Scalar.addi v57 v58
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v45 : BitVec 32 := Scalar.addi v8 c3_i32
  let c4_i32_25 : BitVec 32 := 4#32
  let c0_i32_26 : BitVec 32 := 0#32
  let v46 : BitVec 1 := Scalar.cmpi .eq c4_i32_25 c0_i32_26
  let c1_i32_27 : BitVec 32 := 1#32
  let v47 : BitVec 32 := Scalar.select v46 c1_i32_27 c4_i32_25
  let v48 : BitVec 32 := Scalar.remsi v45 v47
  let c0_i32_29 : BitVec 32 := 0#32
  let v50 : BitVec 1 := Scalar.cmpi .slt v48 c0_i32_29
  let c0_i32_30 : BitVec 32 := 0#32
  let v51 : BitVec 1 := Scalar.cmpi .slt v47 c0_i32_30
  let v52 : BitVec 1 := Scalar.xori v50 v51
  let c0_i32_28 : BitVec 32 := 0#32
  let v49 : BitVec 1 := Scalar.cmpi .ne v48 c0_i32_28
  let v53 : BitVec 1 := Scalar.andi v52 v49
  let v54 : BitVec 32 := Scalar.addi v48 v47
  let v55 : BitVec 32 := Scalar.select v53 v54 v48
  let c1_i32_35 : BitVec 32 := 1#32
  let v60 : BitVec 32 := Scalar.muli v55 c1_i32_35
  let v61 : BitVec 32 := Scalar.addi v59 v60
  v61.toNat
def k0_off1 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  ![v8.toNat]
def k0_off2 (d0 : Dev nD) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_104 : BitVec 32 := 0#32
  let c0_i32_105 : BitVec 32 := 0#32
  ![v8.toNat, 0, 0]
def k0_dev4 (d0 : Dev nD) : Nat :=
  let c0_i32_101 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_100 : BitVec 32 := 16#32
  let v238 : BitVec 32 := Scalar.muli v2 c16_i32_100
  let v239 : BitVec 32 := Scalar.addi c0_i32_101 v238
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_102 : BitVec 32 := 4#32
  let v240 : BitVec 32 := Scalar.muli v5 c4_i32_102
  let v241 : BitVec 32 := Scalar.addi v239 v240
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_92 : BitVec 32 := 1#32
  let v227 : BitVec 32 := Scalar.addi v8 c1_i32_92
  let c4_i32_93 : BitVec 32 := 4#32
  let c0_i32_94 : BitVec 32 := 0#32
  let v228 : BitVec 1 := Scalar.cmpi .eq c4_i32_93 c0_i32_94
  let c1_i32_95 : BitVec 32 := 1#32
  let v229 : BitVec 32 := Scalar.select v228 c1_i32_95 c4_i32_93
  let v230 : BitVec 32 := Scalar.remsi v227 v229
  let c0_i32_97 : BitVec 32 := 0#32
  let v232 : BitVec 1 := Scalar.cmpi .slt v230 c0_i32_97
  let c0_i32_98 : BitVec 32 := 0#32
  let v233 : BitVec 1 := Scalar.cmpi .slt v229 c0_i32_98
  let v234 : BitVec 1 := Scalar.xori v232 v233
  let c0_i32_96 : BitVec 32 := 0#32
  let v231 : BitVec 1 := Scalar.cmpi .ne v230 c0_i32_96
  let v235 : BitVec 1 := Scalar.andi v234 v231
  let v236 : BitVec 32 := Scalar.addi v230 v229
  let v237 : BitVec 32 := Scalar.select v235 v236 v230
  let c1_i32_103 : BitVec 32 := 1#32
  let v242 : BitVec 32 := Scalar.muli v237 c1_i32_103
  let v243 : BitVec 32 := Scalar.addi v241 v242
  v243.toNat
def k0_dev5 (d0 : Dev nD) : Nat :=
  let c0_i32_115 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_114 : BitVec 32 := 16#32
  let v261 : BitVec 32 := Scalar.muli v2 c16_i32_114
  let v262 : BitVec 32 := Scalar.addi c0_i32_115 v261
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_116 : BitVec 32 := 4#32
  let v263 : BitVec 32 := Scalar.muli v5 c4_i32_116
  let v264 : BitVec 32 := Scalar.addi v262 v263
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_106 : BitVec 32 := 2#32
  let v250 : BitVec 32 := Scalar.addi v8 c2_i32_106
  let c4_i32_107 : BitVec 32 := 4#32
  let c0_i32_108 : BitVec 32 := 0#32
  let v251 : BitVec 1 := Scalar.cmpi .eq c4_i32_107 c0_i32_108
  let c1_i32_109 : BitVec 32 := 1#32
  let v252 : BitVec 32 := Scalar.select v251 c1_i32_109 c4_i32_107
  let v253 : BitVec 32 := Scalar.remsi v250 v252
  let c0_i32_111 : BitVec 32 := 0#32
  let v255 : BitVec 1 := Scalar.cmpi .slt v253 c0_i32_111
  let c0_i32_112 : BitVec 32 := 0#32
  let v256 : BitVec 1 := Scalar.cmpi .slt v252 c0_i32_112
  let v257 : BitVec 1 := Scalar.xori v255 v256
  let c0_i32_110 : BitVec 32 := 0#32
  let v254 : BitVec 1 := Scalar.cmpi .ne v253 c0_i32_110
  let v258 : BitVec 1 := Scalar.andi v257 v254
  let v259 : BitVec 32 := Scalar.addi v253 v252
  let v260 : BitVec 32 := Scalar.select v258 v259 v253
  let c1_i32_117 : BitVec 32 := 1#32
  let v265 : BitVec 32 := Scalar.muli v260 c1_i32_117
  let v266 : BitVec 32 := Scalar.addi v264 v265
  v266.toNat
def k0_dev6 (d0 : Dev nD) : Nat :=
  let c0_i32_129 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_128 : BitVec 32 := 16#32
  let v284 : BitVec 32 := Scalar.muli v2 c16_i32_128
  let v285 : BitVec 32 := Scalar.addi c0_i32_129 v284
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_130 : BitVec 32 := 4#32
  let v286 : BitVec 32 := Scalar.muli v5 c4_i32_130
  let v287 : BitVec 32 := Scalar.addi v285 v286
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_120 : BitVec 32 := 3#32
  let v273 : BitVec 32 := Scalar.addi v8 c3_i32_120
  let c4_i32_121 : BitVec 32 := 4#32
  let c0_i32_122 : BitVec 32 := 0#32
  let v274 : BitVec 1 := Scalar.cmpi .eq c4_i32_121 c0_i32_122
  let c1_i32_123 : BitVec 32 := 1#32
  let v275 : BitVec 32 := Scalar.select v274 c1_i32_123 c4_i32_121
  let v276 : BitVec 32 := Scalar.remsi v273 v275
  let c0_i32_125 : BitVec 32 := 0#32
  let v278 : BitVec 1 := Scalar.cmpi .slt v276 c0_i32_125
  let c0_i32_126 : BitVec 32 := 0#32
  let v279 : BitVec 1 := Scalar.cmpi .slt v275 c0_i32_126
  let v280 : BitVec 1 := Scalar.xori v278 v279
  let c0_i32_124 : BitVec 32 := 0#32
  let v277 : BitVec 1 := Scalar.cmpi .ne v276 c0_i32_124
  let v281 : BitVec 1 := Scalar.andi v280 v277
  let v282 : BitVec 32 := Scalar.addi v276 v275
  let v283 : BitVec 32 := Scalar.select v281 v282 v276
  let c1_i32_131 : BitVec 32 := 1#32
  let v288 : BitVec 32 := Scalar.muli v283 c1_i32_131
  let v289 : BitVec 32 := Scalar.addi v287 v288
  v289.toNat
def k0_off3 (d0 : Dev nD) (c1_i32_134 : BitVec 32) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v296 : BitVec 32 := Scalar.addi v8 c1_i32_134
  let c4_i32_135 : BitVec 32 := 4#32
  let c0_i32_136 : BitVec 32 := 0#32
  let v297 : BitVec 1 := Scalar.cmpi .eq c4_i32_135 c0_i32_136
  let c1_i32_137 : BitVec 32 := 1#32
  let v298 : BitVec 32 := Scalar.select v297 c1_i32_137 c4_i32_135
  let v299 : BitVec 32 := Scalar.remsi v296 v298
  let c0_i32_139 : BitVec 32 := 0#32
  let v301 : BitVec 1 := Scalar.cmpi .slt v299 c0_i32_139
  let c0_i32_140 : BitVec 32 := 0#32
  let v302 : BitVec 1 := Scalar.cmpi .slt v298 c0_i32_140
  let v303 : BitVec 1 := Scalar.xori v301 v302
  let c0_i32_138 : BitVec 32 := 0#32
  let v300 : BitVec 1 := Scalar.cmpi .ne v299 c0_i32_138
  let v304 : BitVec 1 := Scalar.andi v303 v300
  let v305 : BitVec 32 := Scalar.addi v299 v298
  let v306 : BitVec 32 := Scalar.select v304 v305 v299
  ![v306.toNat]
def k0_off4 (d0 : Dev nD) (c1_i32_134 : BitVec 32) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v296 : BitVec 32 := Scalar.addi v8 c1_i32_134
  let c4_i32_135 : BitVec 32 := 4#32
  let c0_i32_136 : BitVec 32 := 0#32
  let v297 : BitVec 1 := Scalar.cmpi .eq c4_i32_135 c0_i32_136
  let c1_i32_137 : BitVec 32 := 1#32
  let v298 : BitVec 32 := Scalar.select v297 c1_i32_137 c4_i32_135
  let v299 : BitVec 32 := Scalar.remsi v296 v298
  let c0_i32_139 : BitVec 32 := 0#32
  let v301 : BitVec 1 := Scalar.cmpi .slt v299 c0_i32_139
  let c0_i32_140 : BitVec 32 := 0#32
  let v302 : BitVec 1 := Scalar.cmpi .slt v298 c0_i32_140
  let v303 : BitVec 1 := Scalar.xori v301 v302
  let c0_i32_138 : BitVec 32 := 0#32
  let v300 : BitVec 1 := Scalar.cmpi .ne v299 c0_i32_138
  let v304 : BitVec 1 := Scalar.andi v303 v300
  let v305 : BitVec 32 := Scalar.addi v299 v298
  let v306 : BitVec 32 := Scalar.select v304 v305 v299
  let c0_i32_146 : BitVec 32 := 0#32
  let c0_i32_147 : BitVec 32 := 0#32
  ![v306.toNat, 0, 0]
abbrev stage0_0 : Fin 1 → Memref sig .tc .vmem S8x1x8x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x64 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1x8x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S8x1x8x64 : Shape := ⟨4, ![8, 1, 8, 64]⟩
abbrev S256x16x8x64 : Shape := ⟨4, ![256, 16, 8, 64]⟩
abbrev S8x64 : Shape := ⟨2, ![8, 64]⟩
abbrev S8 : Shape := ⟨1, ![8]⟩
abbrev S8x64x16 : Shape := ⟨3, ![8, 64, 16]⟩
abbrev S8x1024 : Shape := ⟨2, ![8, 1024]⟩
abbrev S8x1 : Shape := ⟨2, ![8, 1]⟩
abbrev S_ : Shape := ⟨0, ![]⟩
abbrev S8x64x1 : Shape := ⟨3, ![8, 64, 1]⟩
abbrev S8x64x16x8x64 : Shape := ⟨5, ![8, 64, 16, 8, 64]⟩
abbrev S8x1024x8x64 : Shape := ⟨4, ![8, 1024, 8, 64]⟩
abbrev S8x8x1x1024 : Shape := ⟨4, ![8, 8, 1, 1024]⟩
abbrev S8x1x1x1024 : Shape := ⟨4, ![8, 1, 1, 1024]⟩
abbrev S8x8x1 : Shape := ⟨3, ![8, 8, 1]⟩
abbrev S8x8x1x1 : Shape := ⟨4, ![8, 8, 1, 1]⟩
abbrev S8x8x64x1 : Shape := ⟨4, ![8, 8, 64, 1]⟩

abbrev nBuf : Space → Nat
  | .hbm => 53
  | .vmem => 0
  | .smem => 0
  | _ => 0

abbrev bufTy : (tb : Table) → Fin (tcTables nBuf tb) → BufTy
  | .hbm, ⟨0, _⟩ => ⟨S8x1x8x64, .f32⟩
  | .hbm, ⟨1, _⟩ => ⟨S256x16x8x64, .f32⟩
  | .hbm, ⟨2, _⟩ => ⟨S256x16x8x64, .f32⟩
  | .hbm, ⟨3, _⟩ => ⟨S8x64, .i32⟩
  | .hbm, ⟨4, _⟩ => ⟨S8, .i32⟩
  | .hbm, ⟨5, _⟩ => ⟨S8x64x16, .i32⟩
  | .hbm, ⟨6, _⟩ => ⟨S8x1024, .i32⟩
  | .hbm, ⟨7, _⟩ => ⟨S8x1, .i32⟩
  | .hbm, ⟨8, _⟩ => ⟨S8x1024, .i32⟩
  | .hbm, ⟨9, _⟩ => ⟨S8x1024, .i1⟩
  | .hbm, ⟨10, _⟩ => ⟨S_, .i32⟩
  | .hbm, ⟨11, _⟩ => ⟨S8x64, .i32⟩
  | .hbm, ⟨12, _⟩ => ⟨S8x64, .i1⟩
  | .hbm, ⟨13, _⟩ => ⟨S_, .i32⟩
  | .hbm, ⟨14, _⟩ => ⟨S8x64, .i32⟩
  | .hbm, ⟨15, _⟩ => ⟨S8x64, .i32⟩
  | .hbm, ⟨16, _⟩ => ⟨S8x64, .i32⟩
  | .hbm, ⟨17, _⟩ => ⟨S8x64x1, .i32⟩
  | .hbm, ⟨18, _⟩ => ⟨S8x64x16x8x64, .f32⟩
  | .hbm, ⟨19, _⟩ => ⟨S8x1024x8x64, .f32⟩
  | .hbm, ⟨20, _⟩ => ⟨S_, .i32⟩
  | .hbm, ⟨21, _⟩ => ⟨S8x64, .i32⟩
  | .hbm, ⟨22, _⟩ => ⟨S8x64, .i1⟩
  | .hbm, ⟨23, _⟩ => ⟨S_, .i32⟩
  | .hbm, ⟨24, _⟩ => ⟨S8x64, .i32⟩
  | .hbm, ⟨25, _⟩ => ⟨S8x64, .i32⟩
  | .hbm, ⟨26, _⟩ => ⟨S8x64, .i32⟩
  | .hbm, ⟨27, _⟩ => ⟨S8x64x1, .i32⟩
  | .hbm, ⟨28, _⟩ => ⟨S8x64x16x8x64, .f32⟩
  | .hbm, ⟨29, _⟩ => ⟨S8x1024x8x64, .f32⟩
  | .hbm, ⟨30, _⟩ => ⟨S8x8x1x1024, .f32⟩
  | .hbm, ⟨31, _⟩ => ⟨S_, .f32⟩
  | .hbm, ⟨32, _⟩ => ⟨S8x8x1x1024, .f32⟩
  | .hbm, ⟨33, _⟩ => ⟨S8x8x1x1024, .f32⟩
  | .hbm, ⟨34, _⟩ => ⟨S8x1x1x1024, .i1⟩
  | .hbm, ⟨35, _⟩ => ⟨S_, .f32⟩
  | .hbm, ⟨36, _⟩ => ⟨S_, .f32⟩
  | .hbm, ⟨37, _⟩ => ⟨S8x8x1x1024, .i1⟩
  | .hbm, ⟨38, _⟩ => ⟨S8x8x1x1024, .f32⟩
  | .hbm, ⟨39, _⟩ => ⟨S8x8x1x1024, .f32⟩
  | .hbm, ⟨40, _⟩ => ⟨S_, .f32⟩
  | .hbm, ⟨41, _⟩ => ⟨S8x8x1, .f32⟩
  | .hbm, ⟨42, _⟩ => ⟨S8x8x1x1, .f32⟩
  | .hbm, ⟨43, _⟩ => ⟨S8x8x1x1024, .f32⟩
  | .hbm, ⟨44, _⟩ => ⟨S8x8x1x1024, .f32⟩
  | .hbm, ⟨45, _⟩ => ⟨S8x8x1x1024, .f32⟩
  | .hbm, ⟨46, _⟩ => ⟨S_, .f32⟩
  | .hbm, ⟨47, _⟩ => ⟨S8x8x1, .f32⟩
  | .hbm, ⟨48, _⟩ => ⟨S8x8x1x1, .f32⟩
  | .hbm, ⟨49, _⟩ => ⟨S8x8x1x1024, .f32⟩
  | .hbm, ⟨50, _⟩ => ⟨S8x8x1x1024, .f32⟩
  | .hbm, ⟨51, _⟩ => ⟨S8x8x64x1, .f32⟩
  | .hbm, ⟨52, _⟩ => ⟨S8x1x8x64, .f32⟩
  | _, _ => ⟨S8x1x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩

abbrev nD : Nat := 1
abbrev τ : Topo := Topo.v7x

variable {F : FTy → Type} [FloatOps F]
-- ==== Proof.Devices.lean ====
/-
The mesh and the views of the exchange, nothing more.

The 32 devices lie on a 2 × 4 × 4 mesh, device number `16 x + 4 y + z`. The kernel talks only along the last axis: a device
and the three others of its ROW (same `x`, same `y`). `rot k c` is the device of `c`'s row that lies `k + 1` steps further
round, `pos c` is `c`'s place in its row, `rowDev c s` is the device of `c`'s row at place `s`.

The buffers that are talked about: `mineM` holds what a device found out about its own pages; `slotM s` is the part of the
communication buffer that holds what the device at place `s` found out. The semaphores: one for each of the three sends
and one for each place something may be received from.

The printed text computes the peers and the places from the device's number by word arithmetic; the closed forms here are
what that arithmetic comes to on each of the 32 devices.
-/
module

public import proofs.«01_k».proof.Proof.Gen.KernelIdeal.Skeleton
public import proofs.«01_k».proof.Proof.Gen.KernelIdeal.Launch
public import proofs.«01_k».proof.Proof.Gen.KernelIdeal.Points

@[expose] public section

set_option backward.proofsInPublic true

namespace Cert.KernelIdeal.Exchange

open Idealize.ShloMosaic Idealize.ShloMosaic.TcCoe
open Cert.KernelIdeal Cert.KernelIdeal.Gen

/-! ## A row of the mesh -/

/-- The device `k + 1` steps further round the row. -/
def rot (k : Fin 3) (c : Dev nD) : Dev nD := ⟨c.val / 4 * 4 + (c.val % 4 + k.val + 1) % 4, by have := c.isLt; simp only [nD] at this ⊢; omega⟩

/-- A device's place in its row. -/
def pos (c : Dev nD) : Fin 4 := ⟨c.val % 4, Nat.mod_lt _ (by decide)⟩

/-- The device of the row at place `s`. -/
def rowDev (c : Dev nD) (s : Fin 4) : Dev nD := ⟨c.val / 4 * 4 + s.val, by have := c.isLt; have := s.isLt; simp only [nD] at *; omega⟩

theorem rot_rev (k : Fin 3) (c : Dev nD) : rot k.rev (rot k c) = c := by revert k c; decide
theorem rot_rev' (k : Fin 3) (c : Dev nD) : rot k (rot k.rev c) = c := by revert k c; decide
theorem pos_rot_ne (k : Fin 3) (c : Dev nD) : pos (rot k c) ≠ pos c := by revert k c; decide
theorem rowDev_pos (c : Dev nD) : rowDev c (pos c) = c := by revert c; decide
theorem rowDev_rot (k : Fin 3) (c : Dev nD) : rowDev c (pos (rot k c)) = rot k c := by revert k c; decide
theorem rowDev_of_rot (k : Fin 3) (c : Dev nD) : rowDev (rot k c) (pos c) = c := by revert k c; decide
theorem rowDev_rot_left (k : Fin 3) (c : Dev nD) (s : Fin 4) : rowDev (rot k c) s = rowDev c s := by revert k c s; decide
theorem rot_inj (k k' : Fin 3) (c : Dev nD) (h : rot k c = rot k' c) : k = k' := by revert k k' c h; decide +kernel
theorem places (c : Dev nD) (s : Fin 4) : s = pos c ∨ s = pos (rot 0 c) ∨ s = pos (rot 1 c) ∨ s = pos (rot 2 c) := by
  revert c s; decide
/-- `rot k` as a bijection of the devices. -/
def rotEquiv (k : Fin 3) : Dev nD ≃ Dev nD := ⟨rot k, rot k.rev, rot_rev k, rot_rev' k⟩

/-! ## The printed peers and places -/

theorem dev1_eq (c : Dev nD) : (⟨k0_dev1 c, k0_dev1_lt c⟩ : Dev nD) = rot 0 c := by revert c; decide +kernel
theorem dev2_eq (c : Dev nD) : (⟨k0_dev2 c, k0_dev2_lt c⟩ : Dev nD) = rot 1 c := by revert c; decide +kernel
theorem dev3_eq (c : Dev nD) : (⟨k0_dev3 c, k0_dev3_lt c⟩ : Dev nD) = rot 2 c := by revert c; decide +kernel
theorem dev4_eq (c : Dev nD) : (⟨k0_dev4 c, k0_dev4_lt c⟩ : Dev nD) = rot 0 c := by revert c; decide +kernel
theorem dev5_eq (c : Dev nD) : (⟨k0_dev5 c, k0_dev5_lt c⟩ : Dev nD) = rot 1 c := by revert c; decide +kernel
theorem dev6_eq (c : Dev nD) : (⟨k0_dev6 c, k0_dev6_lt c⟩ : Dev nD) = rot 2 c := by revert c; decide +kernel
theorem off1_eq (c : Dev nD) : k0_off1 c = ![(pos c).val] := k0_off1_eq c
theorem off2_eq (c : Dev nD) : k0_off2 c = ![(pos c).val, 0, 0] := k0_off2_eq c
theorem off3_eq (c : Dev nD) (k : Fin 3) : k0_off3 c (BitVec.ofNat 32 (1 + k.val)) = ![(pos (rot k c)).val] := by revert c k; decide +kernel
theorem off4_eq (c : Dev nD) (k : Fin 3) : k0_off4 c (BitVec.ofNat 32 (1 + k.val)) = ![(pos (rot k c)).val, 0, 0] := by revert c k; decide +kernel

/-! ## The semaphores -/

/-- The barrier's semaphore. -/
abbrev barS : Sem sig := (SemArray.scalar (sig.barrier 0 rfl) : Sems sig S_).sem
/-- The semaphore of the `k`-th send. -/
def sendS (k : Fin 3) : DmaSem sig := ⟨7 + k.val, by have := k.isLt; show _ < 14; omega⟩
/-- The semaphore of what comes from place `s`. -/
def recvS (s : Fin 4) : DmaSem sig := ⟨10 + s.val, by have := s.isLt; show _ < 14; omega⟩

theorem send1 : ((cc0_scratch3.slice (Rect.unit (s := S4) ![1] S1.size inb_S4_S1_1)).squeeze S_ squeezes_S1_S_).sem = sendS 0 := by decide +kernel
theorem send2 : ((cc0_scratch3.slice (Rect.unit (s := S4) ![2] S1.size inb_S4_S1_2)).squeeze S_ squeezes_S1_S_).sem = sendS 1 := by decide +kernel
theorem send3 : ((cc0_scratch3.slice (Rect.unit (s := S4) ![3] S1.size inb_S4_S1_3)).squeeze S_ squeezes_S1_S_).sem = sendS 2 := by decide +kernel
theorem recv_at (s : Fin 4) (off : Fin 1 → ℕ) (h) (e : off = ![s.val]) :
    ((cc0_scratch4.slice (Rect.unit (s := S4) off S1.size h)).squeeze S_ squeezes_S1_S_).sem = recvS s := by
  subst e; revert s; decide +kernel

/-! ## The views -/

/-- What this device found out, whole. -/
abbrev mineM : Memref sig .tc .vmem S128x64 .f32 := Memref.whole cc0_scratch1
/-- The communication buffer, whole. -/
abbrev commM : Memref sig .tc .vmem S4x128x64 .f32 := Memref.whole cc0_scratch2

theorem inb_slot (s : Fin 4) : ∀ a, (![s.val, 0, 0] : Fin 3 → Nat) a + S1x128x64.size a ≤ S4x128x64.size a := by revert s; decide +kernel

/-- The part of the communication buffer for place `s`. -/
abbrev slotM (s : Fin 4) : Memref sig .tc .vmem S128x64 .f32 :=
  (commM.slice (Rect.unit (s := S4x128x64) ![s.val, 0, 0] S1x128x64.size (inb_slot s)) (fun _ => rfl)).squeeze S128x64 squeezes_S1x128x64_S128x64

theorem slot_at (s : Fin 4) (off : Fin 3 → ℕ) (h) (e : off = ![s.val, 0, 0]) :
    (commM.slice (Rect.unit (s := S4x128x64) off S1x128x64.size h) (fun _ => rfl)).squeeze S128x64 squeezes_S1x128x64_S128x64 = slotM s := by
  subst e; rfl

/-- What one send adds to the receiver's semaphore, and to its own. -/
abbrev N : ℕ := mineM.view.dmaCredit
theorem N_pos : 0 < N := View.dmaCredit_pos _ (by decide)
theorem slot_credit (s : Fin 4) : (slotM s).view.dmaCredit = N := rfl

end Cert.KernelIdeal.Exchange
-- ==== Proof.Protocol.lean ====
/-
The exchange's protocol, for one call of the kernel, over any contents `X c` a device `c` has to tell.

Every device `c` signals the barrier semaphore of its three row mates and waits for three units on its own; then it sends
`X c` into place `pos c` of the communication buffer of each row mate; then it waits for the three places of its own buffer,
and last for its three sends to be done reading.

* BARRIER cell of `c`: three duties, one for each row mate; the mate `rot k c` pays duty `k`, one unit, and hands over place
  `pos c` of ITS OWN communication buffer, at whatever it holds, with the knowledge that its receive cell for that place is
  in use. So after the wait `c` holds the three places it writes to.
* RECEIVE cell of `c` for place `s ≠ pos c`: one duty, paid by the transfer from the row mate at place `s`: place `s` of
  `c`'s buffer comes back, holding `X` of that mate.
* SEND cell `k` of `c`: one duty, paid by `c`'s own transfer: the share of `X c` that the transfer read comes back.

What is owed is ordered: barrier units (level 1) before what is to be received (level 2); a device that waits on its
barrier owes only what it will send.
-/
module

public import proofs.«01_k».proof.Proof.Devices
public import Idealize.ShloMosaic.Lib.Pipeline.Launch
public import Idealize.ShloMosaic.Lib.Pipeline.Kit
public import Idealize.ShloMosaic.Lib.Rounds
public import Idealize.ShloMosaic.Lib.Tactic
public import Idealize.ShloMosaic.Lib.Pointwise.Index

@[expose] public section

set_option backward.proofsInPublic true

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-- The ghost state of the exchange: three duties at most in a cell's one round. -/
abbrev UX : Type := URounds (GSem nD τ sig) (Fin 3)
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

abbrev barCell (c : Dev nD) : GSem nD τ sig := ((c : Thread nD τ), .reg barS)
abbrev sendCell (c : Dev nD) (k : Fin 3) : GSem nD τ sig := ((c : Thread nD τ), .dma (sendS k))
abbrev recvCell (c : Dev nD) (s : Fin 4) : GSem nD τ sig := ((c : Thread nD τ), .dma (recvS s))

/-! ## Contents -/

/-- What a device tells: the contents of its own 128 × 64 buffer. -/
abbrev Told (F : FTy → Type) : Type := Dev nD → S128x64.Idx → Elt F .f32

/-- The communication buffer of `c` with every place at what the device of that place tells. -/
def gathered (X : Told F) (c : Dev nD) : S4x128x64.Idx → Elt F .f32 :=
  fun i => X (rowDev c (i 0)) (ix2 (i 1) (i 2))

/-- Place `s` of `c`'s communication buffer, at `f`. -/
abbrev slotPts (c : Dev nD) (s : Fin 4) (f : S4x128x64.Idx → Elt F .f32) : sProp 𝕄 :=
  (slotM s).view.loc (c : Thread nD τ) ↦[(slotM s).view.set]{fullShare} f

/-- A share of what `c` tells. -/
abbrev minePts (c : Dev nD) (q : PosShare TreeShare) (f : S128x64.Idx → Elt F .f32) : sProp 𝕄 :=
  mineM.view.loc (c : Thread nD τ) ↦[mineM.view.set]{q} f

/-- The share the `k`-th send reads through. -/
abbrev part (k : Fin 3) : PosShare TreeShare :=
  match k with
  | 0 => fullShare.left
  | 1 => fullShare.right.left
  | 2 => fullShare.right.right

/-! ## The schedule -/

def barPay (c : Dev nD) (k : Fin 3) : sProp 𝕄 :=
  iprop((∃ f, slotPts (rot k c) (pos c) f) ∗ reached ER (recvCell (rot k c) (pos c)) 0)
def sendPay (X : Told F) (c : Dev nD) (k : Fin 3) : sProp 𝕄 := minePts c (part k) (X c)
def recvPay (X : Told F) (c : Dev nD) (s : Fin 4) : sProp 𝕄 := slotPts c s (gathered X c)

/-- The duties of a cell: by whose semaphore it is. -/
def dutiesOf (c : Dev nD) : SemLoc sig → Finset (Fin 3)
  | .reg s => if s = barS then Finset.univ else ∅
  | .dma q => if 7 ≤ q.val ∧ q.val < 10 ∨ 10 ≤ q.val ∧ q.val ≠ 10 + (pos c).val then {0} else ∅

def amountOf : SemLoc sig → ℕ
  | .reg _ => 1
  | .dma _ => N

def payloadOf (X : Told F) (c : Dev nD) : SemLoc sig → Fin 3 → sProp 𝕄
  | .reg _, k => barPay c k
  | .dma q, _ => if q.val < 10 then sendPay X c (Fin.ofNat 3 (q.val - 7)) else recvPay X c (Fin.ofNat 4 (q.val - 10))

/-- One round. -/
def sched (X : Told F) : Rounds.Schedule (GSem nD τ sig) (Fin 3) 𝕄 where
  duties g r := if r = 0 ∧ g.1.2 = .tc then dutiesOf g.1.1 g.2 else ∅
  unitless _ := False
  amount g _ _ := amountOf g.2
  payload g _ d := payloadOf X g.1.1 g.2 d
  amount_pos g _ _ _ := by
    obtain ⟨_, (s | q)⟩ := g
    · exact Nat.one_pos
    · exact N_pos

instance sched_storable (X : Told F) (g : GSem nD τ sig) (r : ℕ) (d : Fin 3) :
    BI.Storable (upEmb : UEmb _ 𝕄) ((sched X).payload g r d) := by
  show BI.Storable upEmb (payloadOf X g.1.1 g.2 d)
  unfold payloadOf barPay sendPay recvPay
  (repeat' split) <;> infer_instance

variable (X : Told F) (c : Dev nD)

theorem duties_bar : (sched X).duties (barCell c) 0 = Finset.univ := by
  dsimp only [sched]; rw [if_pos ⟨rfl, rfl⟩]; unfold dutiesOf; exact if_pos rfl
theorem duties_send (k : Fin 3) : (sched X).duties (sendCell c k) 0 = {0} := by
  dsimp only [sched]; rw [if_pos ⟨rfl, rfl⟩]
  exact if_pos (.inl ⟨Nat.le_add_right _ _, by show 7 + k.val < 10; omega⟩)
theorem duties_recv (s : Fin 4) (h : s ≠ pos c) : (sched X).duties (recvCell c s) 0 = {0} := by
  dsimp only [sched]; rw [if_pos ⟨rfl, rfl⟩]
  exact if_pos (.inr ⟨Nat.le_add_right _ _, fun e => h (Fin.ext (Nat.add_left_cancel e))⟩)
theorem duties_later (g : GSem nD τ sig) : ∀ r, 1 ≤ r → (sched X).duties g r = ∅ :=
  fun r hr => by dsimp only [sched]; rw [if_neg (fun h => by omega)]

theorem amount_bar (d : Fin 3) : (sched X).amount (barCell c) 0 d = 1 := rfl
theorem amount_send (k d : Fin 3) : (sched X).amount (sendCell c k) 0 d = N := rfl
theorem amount_recv (s : Fin 4) (d : Fin 3) : (sched X).amount (recvCell c s) 0 d = N := rfl

theorem expect_bar : (sched X).expect (barCell c) 0 = 3 := by
  unfold Schedule.expect Schedule.amountOf; rw [duties_bar]; rfl
theorem expect_send (k : Fin 3) : (sched X).expect (sendCell c k) 0 = N := by
  unfold Schedule.expect Schedule.amountOf; rw [duties_send, Finset.sum_singleton, amount_send]
theorem expect_recv (s : Fin 4) (h : s ≠ pos c) : (sched X).expect (recvCell c s) 0 = N := by
  unfold Schedule.expect Schedule.amountOf; rw [duties_recv X c s h, Finset.sum_singleton, amount_recv]

theorem payload_bar (k : Fin 3) : (sched X).payload (barCell c) 0 k = barPay c k := rfl
theorem payload_send (k d : Fin 3) : (sched X).payload (sendCell c k) 0 d = sendPay X c k := by
  show payloadOf X c (.dma (sendS k)) d = _
  unfold payloadOf; dsimp only
  rw [if_pos (by show 7 + k.val < 10; omega), show Fin.ofNat 3 ((sendS k).val - 7) = k by revert k; decide]
theorem payload_recv (s : Fin 4) (d : Fin 3) : (sched X).payload (recvCell c s) 0 d = recvPay X c s := by
  show payloadOf X c (.dma (recvS s)) d = _
  unfold payloadOf; dsimp only
  rw [if_neg (by show ¬ 10 + s.val < 10; omega), show Fin.ofNat 4 ((recvS s).val - 10) = s by revert s; decide]

/-- Three of a family, side by side. -/
abbrev tri (Φ : Fin 3 → sProp 𝕄) : sProp 𝕄 := iprop(Φ 0 ∗ Φ 1 ∗ Φ 2)
theorem tri_eq (Φ : Fin 3 → sProp 𝕄) : bigSep Finset.univ Φ = tri Φ :=
  bigSep_univ_eq_bigSepL [(0 : Fin 3), 1, 2] (by decide) (by decide) Φ

theorem rest_bar : bigSep ((sched X).duties (barCell c) 0 \ ∅) (fun k => (sched X).payload (barCell c) 0 k) = tri fun k => barPay (F := F) c k := by
  rw [Finset.sdiff_empty, duties_bar, tri_eq]; rfl
theorem rest_send (k : Fin 3) : bigSep ((sched X).duties (sendCell c k) 0 \ ∅) (fun u => (sched X).payload (sendCell c k) 0 u) = sendPay X c k := by
  rw [Finset.sdiff_empty, duties_send, bigSep_singleton, payload_send]
theorem rest_recv (s : Fin 4) (h : s ≠ pos c) : bigSep ((sched X).duties (recvCell c s) 0 \ ∅) (fun u => (sched X).payload (recvCell c s) 0 u) = recvPay X c s := by
  rw [Finset.sdiff_empty, duties_recv X c s h, bigSep_singleton, payload_recv]

/-! ## What is owed -/

/-- What is still to be sent to the row mate `rot k c`; the unit its barrier waits for. -/
abbrev toSend (c : Dev nD) (k : Fin 3) : CellTallies nD τ sig Unit := tallyAt (recvCell (rot k c) (pos c)) () N
abbrev toSignal (c : Dev nD) (k : Fin 3) : CellTallies nD τ sig Unit := tallyAt (barCell (rot k c)) () 1

/-- What `c` owes after its signals; what it owes at launch. -/
def owedSends (c : Dev nD) : CellTallies nD τ sig Unit := toSend c 2 + toSend c 1 + toSend c 0
def owed (c : Dev nD) : CellTallies nD τ sig Unit := owedSends c + toSignal c 2 + toSignal c 1 + toSignal c 0

def L (g : GSem nD τ sig) : Finset Unit := if g.1.2 = .tc then {()} else ∅
def lv (g : GSem nD τ sig) (_ : Unit) : ℕ :=
  match g.2 with
  | .reg _ => 1
  | .dma q => if 10 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (s : Fin 4) (u : Unit) : lv (recvCell c s) u = 2 := if_pos (Nat.le_add_right _ _)
theorem lv_bar (c : Dev nD) (u : Unit) : lv (barCell c) u = 1 := rfl

theorem tallyAt_pos {g g' : GSem nD τ sig} {n : ℕ} {u : Unit} (h : 0 < (tallyAt g' () n : CellTallies nD τ sig Unit) g u) : g = g' := by
  rw [tallyAt_apply] at h
  by_contra hne
  rw [if_neg (fun e => hne e.1)] at h
  exact absurd h (Nat.lt_irrefl 0)

theorem add_pos_cases {A B : CellTallies nD τ sig Unit} {g : GSem nD τ sig} {u : Unit} (h : 0 < (A + B) g u) : 0 < A g u ∨ 0 < B g u := by
  rw [Pi.add_apply, Finsupp.add_apply] at h
  exact Nat.add_pos_iff_pos_or_pos.mp h

/-- What is owed after the signals are transfers to row mates. -/
theorem owedSends_pos {c : Dev nD} {g : GSem nD τ sig} {u : Unit} (h : 0 < owedSends c g u) : ∃ k, g = recvCell (rot k c) (pos c) := by
  unfold owedSends at h
  rcases add_pos_cases h with h | h
  · rcases add_pos_cases h with h | h
    · exact ⟨2, tallyAt_pos h⟩
    · exact ⟨1, tallyAt_pos h⟩
  · exact ⟨0, tallyAt_pos h⟩

theorem owed_pos {c : Dev nD} {g : GSem nD τ sig} {u : Unit} (h : 0 < owed c g u) :
    (∃ k, g = recvCell (rot k c) (pos c)) ∨ ∃ k, g = barCell (rot k c) := by
  unfold owed at h
  rcases add_pos_cases h with h | h
  · rcases add_pos_cases h with h | h
    · rcases add_pos_cases h with h | h
      · exact .inl (owedSends_pos h)
      · exact .inr ⟨2, tallyAt_pos h⟩
    · exact .inr ⟨1, tallyAt_pos h⟩
  · exact .inr ⟨0, tallyAt_pos h⟩

/-- A device may wait on its barrier while it owes only transfers. -/
theorem mayWait_bar (c : Dev nD) : (levAts L lv : sProp 𝕄) ⊢ MayWait (c : Thread nD τ) (.reg barS) () (owedSends c) :=
  MayOwe.of_cut (L := L) (lev := lv) 1 (fun p hp => by rw [Finset.mem_singleton.mp hp, L_tc]; exact Finset.mem_singleton_self _)
    (fun g u hg => by obtain ⟨k, rfl⟩ := owedSends_pos hg; rw [L_tc]; exact Finset.mem_singleton_self _)
    (fun p hp => by rw [Finset.mem_singleton.mp hp]; exact le_refl 1)
    (fun g u hg => by obtain ⟨k, rfl⟩ := owedSends_pos hg; rw [lv_recv]; decide)

/-- Whatever is owed lies above the transfers of the call's own operands. -/
theorem owed_level {c : Dev nD} {g : GSem nD τ sig} {u : Unit} (h : 0 < owed c g u) : u ∈ L g ∧ 0 < lv g u := by
  rcases owed_pos h with ⟨k, rfl⟩ | ⟨k, rfl⟩
  · exact ⟨by rw [L_tc]; exact Finset.mem_singleton_self _, by rw [lv_recv]; decide⟩
  · exact ⟨by rw [L_tc]; exact Finset.mem_singleton_self _, by rw [lv_bar]; decide⟩

/-! ## The ghost state a device runs with -/

/-- The cells' invariants a device opens: its own and its row mates'. -/
def invs (K : GSem nD τ sig → ℕ) (c : Dev nD) : sProp 𝕄 :=
  iprop(cellInv ER (sched X) (K (barCell c)) (barCell c)
    ∗ (tri fun k => cellInv ER (sched X) (K (sendCell c k)) (sendCell c k))
    ∗ (tri fun k => cellInv ER (sched X) (K (recvCell c (pos (rot k c)))) (recvCell c (pos (rot k c))))
    ∗ (tri fun k => cellInv ER (sched X) (K (barCell (rot k c))) (barCell (rot k c)))
    ∗ (tri fun k => cellInv ER (sched X) (K (recvCell (rot k c) (pos c))) (recvCell (rot k c) (pos c))))

instance invs_persistent (K : GSem nD τ sig → ℕ) (c : Dev nD) : BI.Persistent (invs X K c) := by unfold invs tri; infer_instance

/-- The tokens of the duties a device pays: its three signals, its three transfers at both ends. -/
def toks (c : Dev nD) : sProp 𝕄 :=
  iprop((tri fun k => dutyTok ER (barCell (rot k c)) 0 k.rev)
    ∗ (tri fun k => dutyTok ER (recvCell (rot k c) (pos c)) 0 0)
    ∗ (tri fun k => dutyTok ER (sendCell c k) 0 0))

/-- What a device carries from the launch to the call: its send and receive cells are still to be opened. -/
def ghost (K : GSem nD τ sig → ℕ) (c : Dev nD) : sProp 𝕄 :=
  iprop(invs X K c ∗ atPos ER (barCell c) 0 ∅ 0
    ∗ (tri fun k => openTok ER (sendCell c k)) ∗ (tri fun k => openTok ER (recvCell c (pos (rot k c))))
    ∗ (tri fun k => reached ER (barCell (rot k c)) 0) ∗ toks c)

/-- The same with the cells open. -/
def opened (K : GSem nD τ sig → ℕ) (c : Dev nD) : sProp 𝕄 :=
  iprop(invs X K c ∗ atPos ER (barCell c) 0 ∅ 0
    ∗ (tri fun k => atPos ER (sendCell c k) 0 ∅ 0) ∗ (tri fun k => atPos ER (recvCell c (pos (rot k c))) 0 ∅ 0)
    ∗ (tri fun k => reached ER (barCell (rot k c)) 0) ∗ (tri fun k => reached ER (sendCell c k) 0)
    ∗ (tri fun k => reached ER (recvCell c (pos (rot k c))) 0) ∗ toks c)

/-- The credit a device waits with on cells others pay. -/
def credits (c : Dev nD) : sProp 𝕄 :=
  iprop(cred (tallyAt (barCell c) () 3) ∗ tri fun k => cred (tallyAt (recvCell c (pos (rot k c))) () N))

/-- A cell after its one round is closed: its counter is back, at zero. -/
theorem close (κ : ℕ) (g : GSem nD τ sig) :
    iprop(cellInv ER (sched X) κ g ∗ atPos ER g (0 + 1) ∅ 0) ⊢ (|={Set.univ}=> semVal g 0 : sProp 𝕄) :=
  Rounds.cell_close ER (sched X) (Set.mem_univ κ) id (duties_later X g)

/-- What a device gets back at the end of the call: its cells' counters, at zero. -/
def closed (c : Dev nD) : sProp 𝕄 :=
  iprop(semVal (barCell c) 0 ∗ (tri fun k => semVal (sendCell c k) 0) ∗ (tri fun k => semVal (recvCell c (pos (rot k c))) 0))

end Cert.KernelIdeal.Exchange
end
-- ==== Proof.Slots.lean ====
/-
The communication buffer as four places: which elements place `s` has, what a transfer into it leaves there, and the
buffer cut into its places and put together again. A device's own place is written by nobody and keeps what it held.
-/
module

public import proofs.«01_k».proof.Proof.Protocol

@[expose] public section

set_option backward.proofsInPublic true

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- Which place an element of the communication buffer belongs to. -/
def at0 (i : S4x128x64.Idx) : Fin 4 := i 0

/-- The communication buffer's elements at place `s`. -/
def place (s : Fin 4) : Finset S4x128x64.Idx := Finset.univ.filter fun i => at0 i = s

theorem mem_place {s : Fin 4} {i : S4x128x64.Idx} : i ∈ place s ↔ at0 i = s := by simp [place]

theorem slot_set (s : Fin 4) : (slotM s).view.set = place s := by
  show (((View.whole cc0_scratch2).slice _).reshape _ _).set = _
  rw [View.set_reshape, View.set_slice_whole]
  ext i
  rw [mem_place, Rect.mem_set_unit]
  constructor
  · intro h
    obtain ⟨h1, h2⟩ := h 0
    refine Fin.ext ?_
    change s.val ≤ (i 0).val at h1
    change (i 0).val < s.val + 1 at h2
    exact Nat.le_antisymm (Nat.lt_succ_iff.mp h2) h1
  · rintro rfl a
    match a with
    | ⟨0, _⟩ => exact ⟨Nat.le_refl _, Nat.lt_succ_self _⟩
    | ⟨1, _⟩ => exact ⟨Nat.zero_le _, by show (i 1).val < 0 + 128; have : (i 1).val < 128 := (i 1).isLt; omega⟩
    | ⟨2, _⟩ => exact ⟨Nat.zero_le _, by show (i 2).val < 0 + 64; have : (i 2).val < 64 := (i 2).isLt; omega⟩

/-- Place `s` counts its elements by the last two coordinates. -/
theorem slot_emb (s : Fin 4) (a : Fin 128) (b : Fin 64) : (slotM s).view.emb (ix2 a b) = ix3 s a b := by
  show (Rect.unit (s := S4x128x64) ![s.val, 0, 0] S1x128x64.size (inb_slot s)).emb (Shape.reshapeEquiv _ (ix2 a b)) = _
  rw [Shape.reshapeEquiv_cons_one]
  funext x
  refine Fin.ext ?_
  match x with
  | ⟨0, _⟩ => show s.val + 1 * 0 = s.val; omega
  | ⟨1, _⟩ => show 0 + 1 * a.val = a.val; omega
  | ⟨2, _⟩ => show 0 + 1 * b.val = b.val; omega

theorem mine_set : mineM.view.set = Finset.univ := View.set_whole _

/-- What a row mate's transfer leaves at its place: what it tells. -/
theorem landed (X : Told F) (c : Dev nD) (s : Fin 4) (fd : S4x128x64.Idx → Elt F .f32) (i : S4x128x64.Idx) (hi : i ∈ place s) :
    (slotM s).view.write (Elt F) fd (mineM.view.read (Elt F) (X (rowDev c s))) Finset.univ i = gathered X c i := by
  rw [mem_place] at hi
  subst hi
  obtain ⟨s, a, b, rfl⟩ : ∃ (s : Fin 4) (a : Fin 128) (b : Fin 64), i = ix3 s a b := ⟨i 0, i 1, i 2, eq_ix3 i⟩
  show (slotM s).view.write (Elt F) fd (mineM.view.read (Elt F) (X (rowDev c s))) Finset.univ (ix3 s a b) = _
  rw [← slot_emb s a b, View.write_emb_of_mem _ _ (Finset.mem_univ _), slot_emb]
  rfl

/-- The transfer's receipt. -/
theorem recvPay_landed (X : Told F) (c : Dev nD) (s : Fin 4) (fd : S4x128x64.Idx → Elt F .f32) :
    slotPts c s ((slotM s).view.write (Elt F) fd (mineM.view.read (Elt F) (X (rowDev c s))) Finset.univ) = recvPay X c s := by
  unfold recvPay slotPts
  exact pointsTo_congr fun i hi => landed X c s fd i (by rw [← slot_set]; exact hi)

/-- The buffer, whole, at `f`. -/
abbrev commPts (c : Dev nD) (f : S4x128x64.Idx → Elt F .f32) : sProp 𝕄 := commM.view.loc (c : Thread nD τ) ↦{fullShare} f

theorem slotPts_place (c : Dev nD) (s : Fin 4) (f : S4x128x64.Idx → Elt F .f32) :
    slotPts c s f = (commM.view.loc (c : Thread nD τ) ↦[place s]{fullShare} f : sProp 𝕄) := by
  unfold slotPts; rw [slot_set]

theorem places_univ (c : Dev nD) :
    (Finset.univ : Finset S4x128x64.Idx) = place (pos c) ∪ (place (pos (rot 0 c)) ∪ (place (pos (rot 1 c)) ∪ place (pos (rot 2 c)))) := by
  ext i
  simp only [Finset.mem_univ, Finset.mem_union, mem_place, true_iff]
  exact places c (at0 i)

theorem place_disjoint {s s' : Fin 4} (h : s ≠ s') : Disjoint (place s) (place s') := by
  rw [Finset.disjoint_left]
  intro i h1 h2
  rw [mem_place] at h1 h2
  exact h (h1.symm.trans h2)

theorem pos_rot_ne_rot (k k' : Fin 3) (h : k ≠ k') (c : Dev nD) : pos (rot k c) ≠ pos (rot k' c) := by
  revert k k' h c; decide +kernel

/-- The buffer is its four places: the device's own and its row mates'. -/
theorem comm_split (c : Dev nD) (f : S4x128x64.Idx → Elt F .f32) :
    commPts c f = iprop(slotPts c (pos c) f ∗ tri fun k => slotPts c (pos (rot k c)) f) := by
  have d0 : Disjoint (place (pos (rot 1 c))) (place (pos (rot 2 c))) := place_disjoint (pos_rot_ne_rot 1 2 (by decide) c)
  have d1 : Disjoint (place (pos (rot 0 c))) (place (pos (rot 1 c)) ∪ place (pos (rot 2 c))) :=
    Finset.disjoint_union_right.mpr ⟨place_disjoint (pos_rot_ne_rot 0 1 (by decide) c), place_disjoint (pos_rot_ne_rot 0 2 (by decide) c)⟩
  have d2 : Disjoint (place (pos c)) (place (pos (rot 0 c)) ∪ (place (pos (rot 1 c)) ∪ place (pos (rot 2 c)))) :=
    Finset.disjoint_union_right.mpr ⟨place_disjoint (pos_rot_ne 0 c).symm,
      Finset.disjoint_union_right.mpr ⟨place_disjoint (pos_rot_ne 1 c).symm, place_disjoint (pos_rot_ne 2 c).symm⟩⟩
  have e (I J : Finset S4x128x64.Idx) (h : Disjoint I J) : (commM.view.loc (c : Thread nD τ) ↦[I ∪ J]{fullShare} f : sProp 𝕄)
      = iprop((commM.view.loc (c : Thread nD τ) ↦[I]{fullShare} f) ∗ commM.view.loc (c : Thread nD τ) ↦[J]{fullShare} f) :=
    BI.Entails.antisymm (pointsTo_union (ℓ := commM.view.loc (c : Thread nD τ)) (q := fullShare) (f := f) h).1 (pointsTo_union (ℓ := commM.view.loc (c : Thread nD τ)) (q := fullShare) (f := f) h).2
  dsimp only [tri]
  rw [slotPts_place, slotPts_place, slotPts_place, slotPts_place, ← e _ _ d0, ← e _ _ d1, ← e _ _ d2, ← places_univ]

/-- The buffer after the exchange: the own place as it was, the others at what their devices tell. -/
def after (X : Told F) (c : Dev nD) (g : S4x128x64.Idx → Elt F .f32) : S4x128x64.Idx → Elt F .f32 :=
  fun i => if at0 i = pos c then g i else gathered X c i

theorem comm_join (X : Told F) (c : Dev nD) (g : S4x128x64.Idx → Elt F .f32) :
    iprop(slotPts c (pos c) g ∗ tri fun k => recvPay X c (pos (rot k c))) = commPts c (after X c g) := by
  rw [comm_split]
  have h0 : slotPts c (pos c) g = (slotPts c (pos c) (after X c g) : sProp 𝕄) := by
    rw [slotPts_place, slotPts_place]
    exact pointsTo_congr fun i hi => by rw [mem_place] at hi; exact (if_pos hi).symm
  have hk (k : Fin 3) : recvPay X c (pos (rot k c)) = (slotPts c (pos (rot k c)) (after X c g) : sProp 𝕄) := by
    unfold recvPay
    rw [slotPts_place, slotPts_place]
    exact pointsTo_congr fun i hi => by rw [mem_place] at hi; exact (if_neg (fun h => pos_rot_ne k c (hi.symm.trans h))).symm
  dsimp only [tri]
  rw [h0, hk, hk, hk]

/-! ## The shares the sends read through -/

theorem mine_split (c : Dev nD) (f : S128x64.Idx → Elt F .f32) : minePts c fullShare f = (tri fun k => minePts c (part k) f : sProp 𝕄) := by
  dsimp only [tri]
  rw [show (minePts c fullShare f : sProp 𝕄) = iprop(minePts c fullShare.left f ∗ minePts c fullShare.right f) from
    BI.Entails.antisymm (pointsTo_share (ℓ := mineM.view.loc (c : Thread nD τ)) (I := mineM.view.set) (f := f) (PosShare.mem_left_op_right fullShare)).1 (pointsTo_share (ℓ := mineM.view.loc (c : Thread nD τ)) (I := mineM.view.set) (f := f) (PosShare.mem_left_op_right fullShare)).2]
  rw [show (minePts c fullShare.right f : sProp 𝕄) = iprop(minePts c fullShare.right.left f ∗ minePts c fullShare.right.right f) from
    BI.Entails.antisymm (pointsTo_share (ℓ := mineM.view.loc (c : Thread nD τ)) (I := mineM.view.set) (f := f) (PosShare.mem_left_op_right fullShare.right)).1 (pointsTo_share (ℓ := mineM.view.loc (c : Thread nD τ)) (I := mineM.view.set) (f := f) (PosShare.mem_left_op_right fullShare.right)).2]

end Cert.KernelIdeal.Exchange
end
-- ==== Proof.Contents.lean ====
/-
What the kernel's own buffers hold, as functions of the operands, over any float values.

`queries q`: the 64 × 512 query buffer: zero, with head `h`'s scaled queries in the block of rows `8h` and columns `64h`.
`table num ml`: what a device tells its row mates: rows 0–63 head by head the diagonal blocks of `num` (the weighted sums of
values), rows 64–127 the block `ml` (the running maximum in the first 32 columns, the sum of weights in the others).

The stores write these piece by piece; what they leave does not depend on what the buffers held before.
-/
module

public import proofs.«01_k».proof.Proof.Slots
public import Idealize.ShloMosaic.Lib.Writes
public import Idealize.ShloMosaic.Lib.Pipeline.Value

@[expose] public section

set_option backward.proofsInPublic true

noncomputable section

namespace Cert.KernelIdeal.Exchange

open Idealize.ShloMosaic Idealize.ShloMosaic.TcCoe
open Idealize.SL Idealize.SL.RA Idealize.SL.BI
open Cert.KernelIdeal Cert.KernelIdeal.Gen

variable {F : FTy → Type} [FloatOps F]

/-- The operands' and the result's staged copies, and the query buffer. -/
abbrev aQ : Memref sig .tc .vmem S8x1x8x64 .f32 := Memref.whole cc0_stg0_0
abbrev aK : Memref sig .tc .vmem S1024x512 .bf16 := Memref.whole cc0_stg1_0
abbrev aV : Memref sig .tc .vmem S1024x512 .bf16 := Memref.whole cc0_stg2_0
abbrev aT : Memref sig .tc .vmem S8x64 .i32 := Memref.whole cc0_stg3_0
abbrev aL : Memref sig .tc .vmem S8x1 .i32 := Memref.whole cc0_stg4_0
abbrev aO : Memref sig .tc .vmem S8x1x8x64 .f32 := Memref.whole cc0_stg5_0
abbrev qM : Memref sig .tc .vmem S64x512 .f32 := Memref.whole cc0_scratch0

/-! ## The queries -/

/-- The six stores of the first stretch, the last first. -/
abbrev queryPieces6 (v106 : FVec F S8x1x8x64 .f32) (v110 : FVec F S8x64 .f32) : List (View.Piece (Elt F) S64x512 .f32) :=
  [⟨Rect.unit (s := S64x512) ![40, 320] S8x64.size inb_S64x512_S8x64_40_320, k0_pay13 v106⟩,
   ⟨Rect.unit (s := S64x512) ![32, 256] S8x64.size inb_S64x512_S8x64_32_256, k0_pay12 v106⟩,
   ⟨Rect.unit (s := S64x512) ![24, 192] S8x64.size inb_S64x512_S8x64_24_192, k0_pay11 v106⟩,
   ⟨Rect.unit (s := S64x512) ![16, 128] S8x64.size inb_S64x512_S8x64_16_128, k0_pay10 v106⟩,
   ⟨Rect.unit (s := S64x512) ![8, 64] S8x64.size inb_S64x512_S8x64_8_64, k0_pay9 v106⟩,
   ⟨Rect.unit (s := S64x512) ![0, 0] S8x64.size inb_S64x512_S8x64_0_0, k0_pay8 v110⟩]

/-- All eight. -/
abbrev queryPieces (v106 : FVec F S8x1x8x64 .f32) (v110 : FVec F S8x64 .f32) (v149 : FVec F S8x1x1x64 .f32) : List (View.Piece (Elt F) S64x512 .f32) :=
  ⟨Rect.unit (s := S64x512) ![56, 448] S8x64.size inb_S64x512_S8x64_56_448, k0_pay16 v106⟩
    :: ⟨Rect.unit (s := S64x512) ![48, 384] S8x64.size inb_S64x512_S8x64_48_384, k0_pay15 v149⟩ :: queryPieces6 v106 v110

/-- The query buffer, filled. -/
def queries (q : S8x1x8x64.Idx → Elt F .f32) : S64x512.Idx → Elt F .f32 :=
  qM.view.writes (Elt F) (k0_pay5 (F := F)) (queryPieces (k0_pay6 q) (k0_pay7 q) (k0_pay14 (k0_pay6 q)))

/-! ## What is told -/

/-- The eight stores of the sums, the last first. -/
abbrev tablePieces8 (v183 : FVec F S64x512 .f32) (v187 : FVec F S8x64 .f32) : List (View.Piece (Elt F) S128x64 .f32) :=
  [⟨Rect.unit (s := S128x64) ![56, 0] S8x64.size inb_S128x64_S8x64_56_0, k0_pay29 v183⟩,
   ⟨Rect.unit (s := S128x64) ![48, 0] S8x64.size inb_S128x64_S8x64_48_0, k0_pay28 v183⟩,
   ⟨Rect.unit (s := S128x64) ![40, 0] S8x64.size inb_S128x64_S8x64_40_0, k0_pay27 v183⟩,
   ⟨Rect.unit (s := S128x64) ![32, 0] S8x64.size inb_S128x64_S8x64_32_0, k0_pay26 v183⟩,
   ⟨Rect.unit (s := S128x64) ![24, 0] S8x64.size inb_S128x64_S8x64_24_0, k0_pay25 v183⟩,
   ⟨Rect.unit (s := S128x64) ![16, 0] S8x64.size inb_S128x64_S8x64_16_0, k0_pay24 v183⟩,
   ⟨Rect.unit (s := S128x64) ![8, 0] S8x64.size inb_S128x64_S8x64_8_0, k0_pay23 v183⟩,
   ⟨Rect.unit (s := S128x64) ![0, 0] S8x64.size inb_S128x64_S8x64_0_0, v187⟩]

/-- All nine. -/
abbrev tablePieces (v183 : FVec F S64x512 .f32) (v187 : FVec F S8x64 .f32) (v223 : FVec F S64x64 .f32) : List (View.Piece (Elt F) S128x64 .f32) :=
  ⟨Rect.unit (s := S128x64) ![64, 0] S64x64.size inb_S128x64_S64x64_64_0, k0_pay31 v223⟩ :: tablePieces8 v183 v187

/-- The sums' diagonal blocks above, the block `ml` below. -/
def table (num : FVec F S64x512 .f32) (ml : FVec F S64x64 .f32) : S128x64.Idx → Elt F .f32 := fun i =>
  if h : (i 0).val < 64 then num (ix2 ⟨(i 0).val, h⟩ ⟨(i 0).val / 8 * 64 + (i 1).val, by have : (i 1).val < 64 := (i 1).isLt; show _ < 512; omega⟩)
  else ml (ix2 ⟨(i 0).val - 64, by have : (i 0).val < 128 := (i 0).isLt; show _ < 64; omega⟩ (i 1))

/-- A diagonal block's store agrees with `table`. -/
theorem table_diag (num : FVec F S64x512 .f32) (ml : FVec F S64x64 .f32) (h : ℕ) (hs hc inb) (x : S8x64.Idx) :
    shapeCast S8x64 (extractStridedSlice S8x64 ![8 * h, 64 * h] num hs) hc x
      = table num ml ((Rect.unit (s := S128x64) ![8 * h, 0] S8x64.size inb).emb x) := by
  have h8 : 8 * h + 8 ≤ 64 := hs.2 0
  have hx0 : (x 0).val < 8 := (x 0).isLt
  have hx1 : (x 1).val < 64 := (x 1).isLt
  have e0 : ((Rect.unit (s := S128x64) ![8 * h, 0] S8x64.size inb).emb x 0).val = 8 * h + 1 * (x 0).val := rfl
  have e1 : ((Rect.unit (s := S128x64) ![8 * h, 0] S8x64.size inb).emb x 1).val = 0 + 1 * (x 1).val := rfl
  rw [shapeCast_self, table, dif_pos (by omega)]
  refine extractStridedSlice_apply _ _ hs x _ fun a => ?_
  match a with
  | ⟨0, _⟩ => show _ = 8 * h + (x 0).val; show ((Rect.unit (s := S128x64) ![8 * h, 0] S8x64.size inb).emb x 0).val = _; omega
  | ⟨1, _⟩ =>
    show ((Rect.unit (s := S128x64) ![8 * h, 0] S8x64.size inb).emb x 0).val / 8 * 64 + ((Rect.unit (s := S128x64) ![8 * h, 0] S8x64.size inb).emb x 1).val
      = 64 * h + (x 1).val
    omega

/-- So does the store of the block below. -/
theorem table_low (num : FVec F S64x512 .f32) (ml : FVec F S64x64 .f32) (inb) (x : S64x64.Idx) :
    k0_pay31 ml x = table num ml ((Rect.unit (s := S128x64) ![64, 0] S64x64.size inb).emb x) := by
  have e0 : ((Rect.unit (s := S128x64) ![64, 0] S64x64.size inb).emb x 0).val = 64 + 1 * (x 0).val := rfl
  unfold k0_pay31
  rw [shapeCast_self, table, dif_neg (by omega)]
  refine congrArg ml (funext fun a => Fin.ext ?_)
  match a with
  | ⟨0, _⟩ => show (x 0).val = 64 + 1 * (x 0).val - 64; omega
  | ⟨1, _⟩ => show (x 1).val = 0 + 1 * (x 1).val; omega

/-- What the nine stores leave. -/
theorem table_writes (g : S128x64.Idx → Elt F .f32) (v100 : FVec F S64x1024 .f32) (v163 : Vec F S64x512 .f32)
    (v165 v181 : Vec F S1024x512 .bf16) (ml : FVec F S64x64 .f32) :
    mineM.view.writes (Elt F) g (tablePieces (k0_pay21 v100 v163 v165 v181) (k0_pay22 v100 v163 v165 v181) ml)
      = table (k0_pay21 v100 v163 v165 v181) ml := by
  generalize hn : k0_pay21 v100 v163 v165 v181 = num
  have hd : k0_pay22 v100 v163 v165 v181 = shapeCast S8x64 (extractStridedSlice S8x64 ![0, 0] num slices_S64x512_o0_0_S8x64) shapeCasts_S8x64_S8x64 := by
    rw [← hn]; rfl
  rw [hd]
  funext i
  refine (View.read_writes_apply_of_pieces mineM.view g (table num ml) (tablePieces num _ ml) (fun p hp x => ?_) i ?_ :
    mineM.view.read (Elt F) (mineM.view.writes (Elt F) g _) i = _)
  · simp only [tablePieces, tablePieces8, List.mem_cons, List.not_mem_nil, or_false] at hp
    rcases hp with rfl | rfl | rfl | rfl | rfl | rfl | rfl | rfl | rfl
    · exact table_low num ml inb_S128x64_S64x64_64_0 x
    · exact table_diag num ml 7 slices_S64x512_o56_448_S8x64 shapeCasts_S8x64_S8x64 inb_S128x64_S8x64_56_0 x
    · exact table_diag num ml 6 slices_S64x512_o48_384_S8x64 shapeCasts_S8x64_S8x64 inb_S128x64_S8x64_48_0 x
    · exact table_diag num ml 5 slices_S64x512_o40_320_S8x64 shapeCasts_S8x64_S8x64 inb_S128x64_S8x64_40_0 x
    · exact table_diag num ml 4 slices_S64x512_o32_256_S8x64 shapeCasts_S8x64_S8x64 inb_S128x64_S8x64_32_0 x
    · exact table_diag num ml 3 slices_S64x512_o24_192_S8x64 shapeCasts_S8x64_S8x64 inb_S128x64_S8x64_24_0 x
    · exact table_diag num ml 2 slices_S64x512_o16_128_S8x64 shapeCasts_S8x64_S8x64 inb_S128x64_S8x64_16_0 x
    · exact table_diag num ml 1 slices_S64x512_o8_64_S8x64 shapeCasts_S8x64_S8x64 inb_S128x64_S8x64_8_0 x
    · exact table_diag num ml 0 slices_S64x512_o0_0_S8x64 shapeCasts_S8x64_S8x64 inb_S128x64_S8x64_0_0 x
  · have h0 : (i 0).val < 128 := (i 0).isLt
    have h1 : (i 1).val < 64 := (i 1).isLt
    have in8 (o : ℕ) (inb) (h : o ≤ (i 0).val) (h' : (i 0).val < o + 8) : i ∈ (Rect.unit (s := S128x64) ![o, 0] S8x64.size inb).set := by
      rw [Rect.mem_set_unit]
      intro a
      match a with
      | ⟨0, _⟩ => exact ⟨h, h'⟩
      | ⟨1, _⟩ => exact ⟨Nat.zero_le _, by show (i 1).val < 0 + 64; omega⟩
    simp only [tablePieces, tablePieces8, List.mem_cons, List.not_mem_nil, or_false, exists_eq_or_imp, exists_eq_left]
    by_cases hlow : 64 ≤ (i 0).val
    · refine .inl ?_
      rw [Rect.mem_set_unit]
      intro a
      match a with
      | ⟨0, _⟩ => exact ⟨hlow, by show (i 0).val < 64 + 64; omega⟩
      | ⟨1, _⟩ => exact ⟨Nat.zero_le _, by show (i 1).val < 0 + 64; omega⟩
    · have hh : (i 0).val / 8 = 7 ∨ (i 0).val / 8 = 6 ∨ (i 0).val / 8 = 5 ∨ (i 0).val / 8 = 4 ∨ (i 0).val / 8 = 3 ∨ (i 0).val / 8 = 2
          ∨ (i 0).val / 8 = 1 ∨ (i 0).val / 8 = 0 := by omega
      refine .inr ?_
      refine hh.imp (fun h => in8 56 _ (by omega) (by omega)) ?_
      refine fun hh => hh.imp (fun h => in8 48 _ (by omega) (by omega)) ?_
      refine fun hh => hh.imp (fun h => in8 40 _ (by omega) (by omega)) ?_
      refine fun hh => hh.imp (fun h => in8 32 _ (by omega) (by omega)) ?_
      refine fun hh => hh.imp (fun h => in8 24 _ (by omega) (by omega)) ?_
      refine fun hh => hh.imp (fun h => in8 16 _ (by omega) (by omega)) ?_
      exact fun hh => hh.imp (fun h => in8 8 _ (by omega) (by omega)) fun h => in8 0 _ (by omega) (by omega)

end Cert.KernelIdeal.Exchange
end
-- ==== Proof.Local.lean ====
/-
The stretches of the kernel's body in which a device works by itself: it fills the query buffer, forms its own sums, and
writes what it will tell its row mates. Each stretch is stated with what it holds and what it gives back.
-/
module

public import proofs.«01_k».proof.Proof.Contents

@[expose] public section

set_option backward.proofsInPublic true

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

abbrev 𝒱₀ : Variants := Variants.none

/-- A staged operand, or a buffer, whole at `f`. -/
abbrev qPts (c : Dev nD) (f : S64x512.Idx → Elt F .f32) : sProp 𝕄 := qM.view.loc (c : Thread nD τ) ↦{fullShare} f
abbrev tPts (c : Dev nD) (f : S128x64.Idx → Elt F .f32) : sProp 𝕄 := mineM.view.loc (c : Thread nD τ) ↦{fullShare} f
abbrev iQ (c : Dev nD) (f : S8x1x8x64.Idx → Elt F .f32) : sProp 𝕄 := aQ.view.loc (c : Thread nD τ) ↦{fullShare} f
abbrev iK (c : Dev nD) (f : S1024x512.Idx → Elt F .bf16) : sProp 𝕄 := aK.view.loc (c : Thread nD τ) ↦{fullShare} f
abbrev iV (c : Dev nD) (f : S1024x512.Idx → Elt F .bf16) : sProp 𝕄 := aV.view.loc (c : Thread nD τ) ↦{fullShare} f
abbrev iT (c : Dev nD) (f : S8x64.Idx → Elt F .i32) : sProp 𝕄 := aT.view.loc (c : Thread nD τ) ↦{fullShare} f
abbrev iL (c : Dev nD) (f : S8x1.Idx → Elt F .i32) : sProp 𝕄 := aL.view.loc (c : Thread nD τ) ↦{fullShare} f
abbrev iO (c : Dev nD) (f : S8x1x8x64.Idx → Elt F .f32) : sProp 𝕄 := aO.view.loc (c : Thread nD τ) ↦{fullShare} f

/-- A program run at device `c`. -/
abbrev runs {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

theorem zero2 : (![0, 0] : Fin 2 → ℕ) = fun _ => 0 := by decide
theorem zero4 : (![0, 0, 0, 0] : Fin 4 → ℕ) = fun _ => 0 := by decide
theorem zero3 : (![0, 0, 0] : Fin 3 → ℕ) = fun _ => 0 := by decide

/-- The clearing store. -/
theorem cleared (f : S64x512.Idx → Elt F .f32) :
    qM.view.writes (Elt F) f [⟨Rect.unit (s := S64x512) ![0, 0] S64x512.size inb_S64x512_S64x512_0_0, k0_pay5 (F := F)⟩] = k0_pay5 (F := F) := by
  rw [View.writes_singleton]
  exact Memref.write_access_unit_zero_univ (Elt F) cc0_scratch0 zero2 _ _ _

/-! A load of a whole buffer reads what it holds. -/

theorem load_q (f : S8x1x8x64.Idx → Elt F .f32) :
    aQ.view.readAt (Elt F) (Rect.unit (s := S8x1x8x64) ![0, 0, 0, 0] S8x1x8x64.size inb_S8x1x8x64_S8x1x8x64_0_0_0_0).toLoadRect f = f :=
  Memref.readAt_unit_zero (Elt F) cc0_stg0_0 zero4 _ f
theorem load_k (f : S1024x512.Idx → Elt F .bf16) :
    aK.view.readAt (Elt F) (Rect.unit (s := S1024x512) ![0, 0] S1024x512.size inb_S1024x512_S1024x512_0_0).toLoadRect f = f :=
  Memref.readAt_unit_zero (Elt F) cc0_stg1_0 zero2 _ f
theorem load_v (f : S1024x512.Idx → Elt F .bf16) :
    aV.view.readAt (Elt F) (Rect.unit (s := S1024x512) ![0, 0] S1024x512.size inb_S1024x512_S1024x512_0_0).toLoadRect f = f :=
  Memref.readAt_unit_zero (Elt F) cc0_stg2_0 zero2 _ f
theorem load_bt (f : S8x64.Idx → Elt F .i32) :
    aT.view.readAt (Elt F) (Rect.unit (s := S8x64) ![0, 0] S8x64.size inb_S8x64_S8x64_0_0).toLoadRect f = f :=
  Memref.readAt_unit_zero (Elt F) cc0_stg3_0 zero2 _ f
theorem load_lens (f : S8x1.Idx → Elt F .i32) :
    aL.view.readAt (Elt F) (Rect.unit (s := S8x1) ![0, 0] S8x1.size inb_S8x1_S8x1_0_0).toLoadRect f = f :=
  Memref.readAt_unit_zero (Elt F) cc0_stg4_0 zero2 _ f
theorem load_queries (f : S64x512.Idx → Elt F .f32) :
    qM.view.readAt (Elt F) (Rect.unit (s := S64x512) ![0, 0] S64x512.size inb_S64x512_S64x512_0_0).toLoadRect f = f :=
  Memref.readAt_unit_zero (Elt F) cc0_scratch0 zero2 _ f
theorem load_table (f : S128x64.Idx → Elt F .f32) :
    mineM.view.readAt (Elt F) (Rect.unit (s := S128x64) ![0, 0] S128x64.size inb_S128x64_S128x64_0_0).toLoadRect f = f :=
  Memref.readAt_unit_zero (Elt F) cc0_scratch1 zero2 _ f
theorem load_comm (f : S4x128x64.Idx → Elt F .f32) :
    commM.view.readAt (Elt F) (Rect.unit (s := S4x128x64) ![0, 0, 0] S4x128x64.size inb_S4x128x64_S4x128x64_0_0_0).toLoadRect f = f :=
  Memref.readAt_unit_zero (Elt F) cc0_scratch2 zero3 _ f

variable (c : Dev nD) (h0 : aQ.IsWhole) (h1 : aK.IsWhole) (h2 : aV.IsWhole) (h3 : aT.IsWhole) (h4 : aL.IsWhole) (h5 : aO.IsWhole)
  (h6 : qM.IsWhole) (h7 : mineM.IsWhole) (h8 : commM.IsWhole)

/-- The query buffer is cleared, the queries are read. -/
theorem part3 (v64 v67 v68) (lens : S8x1.Idx → Elt F .i32) (q : S8x1x8x64.Idx → Elt F .f32) (f : S64x512.Idx → Elt F .f32) (Q) :
    iprop(iL c lens ∗ iQ c q ∗ qPts c f
      ∗ ((iL c lens ∗ iQ c q ∗ qPts c (k0_pay5 (F := F))) -∗ Q ⟨k0_pay4 v64 v67 v68 lens, k0_pay6 q, k0_pay7 q⟩))
    ⊢ runs c (k0_part3 aQ h0 aK h1 aV h2 aT h3 aL h4 aO h5 qM h6 mineM h7 commM h8 cc0_scratch3 cc0_scratch4 v64 v67 v68) Q := by
  rw [k0_part3_eq_skeleton]; unfold k0_part3_skel
  unfold runs
  iintro ⟨Hl, Hq, Hf, HQ⟩
  sl_exec
  rw [wp_ret]; imodintro
  rw [load_lens, load_q, cleared f]
  iapply HQ
  iframe

/-- Six heads' queries are stored. -/
theorem part4 (v106 : FVec F S8x1x8x64 .f32) (v110 : FVec F S8x64 .f32) (f : S64x512.Idx → Elt F .f32) (Q) :
    iprop(qPts c f ∗ (qPts c (qM.view.writes (Elt F) f (queryPieces6 v106 v110)) -∗ Q (k0_pay14 v106)))
    ⊢ runs c (k0_part4 aQ h0 aK h1 aV h2 aT h3 aL h4 aO h5 qM h6 mineM h7 commM h8 cc0_scratch3 cc0_scratch4 v106 v110) Q := by
  rw [k0_part4_eq_skeleton]; unfold k0_part4_skel
  unfold runs
  iintro ⟨Hf, HQ⟩
  sl_exec
  rw [wp_ret]; imodintro
  iapply HQ
  iexact Hf

/-- The last two heads' queries are stored; scores, weights and sums are formed. -/
theorem part5 (q : S8x1x8x64.Idx → Elt F .f32) (v100 : FVec F S64x1024 .f32) (k v : S1024x512.Idx → Elt F .bf16) (g : S128x64.Idx → Elt F .f32) (Q) :
    iprop(iK c k ∗ iV c v ∗ tPts c g ∗ qPts c (qM.view.writes (Elt F) (k0_pay5 (F := F)) (queryPieces6 (k0_pay6 q) (k0_pay7 q)))
      ∗ ((iK c k ∗ iV c v ∗ tPts c g ∗ qPts c (queries q))
        -∗ Q ⟨k0_pay18 v100 (queries q) k, k0_pay20 v100 (queries q) k, k0_pay21 v100 (queries q) k v, k0_pay22 v100 (queries q) k v⟩))
    ⊢ runs c (k0_part5 aQ h0 aK h1 aV h2 aT h3 aL h4 aO h5 qM h6 mineM h7 commM h8 cc0_scratch3 cc0_scratch4 v100 (k0_pay6 q) (k0_pay14 (k0_pay6 q))) Q := by
  rw [k0_part5_eq_skeleton]; unfold k0_part5_skel
  unfold runs
  iintro ⟨Hk, Hv, Hg, Hf, HQ⟩
  sl_exec
  rw [wp_ret]; imodintro
  rw [load_queries, load_k, load_v, show qM.view.writes (Elt F) (k0_pay5 (F := F)) (part5.sl.Hf_8 q) = queries q from rfl]
  iapply HQ
  iframe

/-- The sums' blocks are stored. -/
theorem part6 (v173 v179 : FVec F S64x1 .f32) (v183 : FVec F S64x512 .f32) (v187 : FVec F S8x64 .f32) (g : S128x64.Idx → Elt F .f32) (Q) :
    iprop(tPts c g ∗ (tPts c (mineM.view.writes (Elt F) g (tablePieces8 v183 v187)) -∗ Q (k0_pay30 v173 v179)))
    ⊢ runs c (k0_part6 aQ h0 aK h1 aV h2 aT h3 aL h4 aO h5 qM h6 mineM h7 commM h8 cc0_scratch3 cc0_scratch4 v173 v179 v183 v187) Q := by
  rw [k0_part6_eq_skeleton]; unfold k0_part6_skel
  unfold runs
  iintro ⟨Hf, HQ⟩
  sl_exec
  rw [wp_ret]; imodintro
  iapply HQ
  iexact Hf

end Cert.KernelIdeal.Exchange
end
-- ==== Proof.Steps.lean ====
/-
The steps of the exchange, one rule for each: a signal to a row mate, the wait at the barrier, a transfer to a row mate, the
wait for one, and the wait for an own transfer to be done reading.
-/
module

public import proofs.«01_k».proof.Proof.Local

@[expose] public section

set_option backward.proofsInPublic true

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X : Told F) (K : GSem nD τ sig → ℕ) (c : Dev nD)

/-- What a signal to `rot k c` hands over: the place of `c`'s buffer for `rot k c`. -/
theorem barPay_rot (k : Fin 3) : (barPay (rot k c) k.rev : sProp 𝕄)
    = iprop((∃ f, slotPts c (pos (rot k c)) f) ∗ reached ER (recvCell c (pos (rot k c))) 0) := by
  unfold barPay; rw [rot_rev]

/-- The signal to a row mate. -/
theorem step_signal {α : Type} (k : Fin 3) (n : Dev nD) (hn : n = rot k c) (g : S4x128x64.Idx → Elt F .f32)
    (O : CellTallies nD τ sig Unit) (W : Waits sig Unit) {Q : α → sProp 𝕄} {p : PUnit → Prog (TpuEff nD τ sig (Elt F) Λ₀ .tc) α} :
    iprop(cellInv ER (sched X) (K (barCell (rot k c))) (barCell (rot k c)) ∗ owes (c : Thread nD τ) (O + toSignal c k) W
        ∗ dutyTok ER (barCell (rot k c)) 0 k.rev ∗ slotPts c (pos (rot k c)) g ∗ reached ER (recvCell c (pos (rot k c))) 0
        ∗ reached ER (barCell (rot k c)) 0)
      ⊢ iprop((owes (c : Thread nD τ) O W -∗ runs c (p ⟨⟩) Q) -∗ runs c (.op (.semSignal (n : Thread nD τ) barS (1 : ℕ)) p) Q) := by
  subst hn
  iintro ⟨Hc, HO, Ht, Hs, Hr, Hb⟩ Hk
  iapply (Rounds.wp_signal 𝒱₀ ER (sched X) (c : Thread nD τ) none (dst := (rot k c : Thread nD τ)) (sem := barS) (r := 0) (d := k.rev)
    (κ := K (barCell (rot k c))) (by rw [duties_bar]; exact Finset.mem_univ _) (amount_bar X (rot k c) k.rev) () O rfl) $$ [Hc HO Ht Hs Hr Hb]
  · isplitl [Hc]; · iexact Hc
    isplitl [HO]; · iexact HO
    isplitl [Ht]; · iexact Ht
    isplitl [Hs Hr]
    · rw [payload_bar, barPay_rot]
      isplitl [Hs]; · iexists g; iexact Hs
      iexact Hr
    iexact Hb
  iexact Hk

/-- The wait at the barrier: the places this device writes to come with it. -/
theorem step_barrier {α : Type} (W : Waits sig Unit) {Q : α → sProp 𝕄} {p : PUnit → Prog (TpuEff nD τ sig (Elt F) Λ₀ .tc) α} :
    iprop(cellInv ER (sched X) (K (barCell c)) (barCell c) ∗ cred (tallyAt (barCell c) () 3) ∗ owes (c : Thread nD τ) (owedSends c) W
        ∗ levAts L lv ∗ atPos ER (barCell c) 0 ∅ 0)
      ⊢ iprop(((∃ W', owes (c : Thread nD τ) (owedSends c) W') -∗ atPos ER (barCell c) (0 + 1) ∅ 0 -∗ (tri fun k => barPay (F := F) c k) -∗ runs c (p ⟨⟩) Q)
        -∗ runs c (.op (.semWait barS (3 : ℕ)) p) Q) := by
  iintro ⟨Hc, Hcr, HO, Hl, Hat⟩ Hk
  iapply (Rounds.wp_wait_rest_token 𝒱₀ ER (sched X) (c : Thread nD τ) none (κ := K (barCell c))
    (wpE_semWait_eq 𝒱₀ (c : Thread nD τ) none Set.univ) (Set.mem_univ _) () (O := owedSends c) (W := W) (R := 0) (m := 0) (T := ∅)
    ((Nat.zero_add _).trans (expect_bar X c).symm)) $$ [Hc Hcr HO Hl Hat]
  · isplitl [Hc]; · iexact Hc
    isplitl [Hcr]; · iexact Hcr
    isplitl [HO]; · iexact HO
    isplitl [Hl]; · iapply (mayWait_bar c); iexact Hl
    iexact Hat
  iintro ⟨HO, Hat, -, Hpay⟩
  ihave Hp := (Entails.of_eq (rest_bar X c)) $$ Hpay
  iapply Hk $$ [HO] Hat Hp
  iexists _; iexact HO

/-- The transfer to a row mate. -/
theorem step_send {α : Type} (k : Fin 3) (n : Dev nD) (hn : n = rot k c) (fn : S4x128x64.Idx → Elt F .f32)
    (dst : Memref sig .tc .vmem S128x64 .f32) (hd : dst = slotM (pos c)) (sS sR : DmaSem sig) (hS : sS = sendS k) (hR : sR = recvS (pos c))
    (O : CellTallies nD τ sig Unit) (W : Waits sig Unit)
    {hsc : dst.view.ref.isScScratch = false} {hsrc : mineM.view.WordExact} {hdst : dst.view.WordExact}
    {hsem : DmaTarget.Typed .vmem (.dma sR) (.remote (Dev.tc n : Thread nD τ) dst (.dma sS) hsc)}
    {Q : α → sProp 𝕄} {p : PUnit → Prog (TpuEff nD τ sig (Elt F) Λ₀ .tc) α} :
    iprop(cellInv ER (sched X) (K (sendCell c k)) (sendCell c k) ∗ cellInv ER (sched X) (K (recvCell (rot k c) (pos c))) (recvCell (rot k c) (pos c))
        ∗ minePts c (part k) (X c) ∗ slotPts (rot k c) (pos c) fn ∗ owes (c : Thread nD τ) (O + toSend c k) W
        ∗ dutyTok ER (sendCell c k) 0 0 ∗ reached ER (sendCell c k) 0
        ∗ dutyTok ER (recvCell (rot k c) (pos c)) 0 0 ∗ reached ER (recvCell (rot k c) (pos c)) 0)
      ⊢ iprop((cred (tallyAt (sendCell c k) () N) -∗ owes (c : Thread nD τ) O W -∗ runs c (p ⟨⟩) Q)
        -∗ runs c (.op (.enqueueDma mineM (.remote (Dev.tc n : Thread nD τ) dst (.dma sS) hsc) (.dma sR) hsrc hdst hsem) p) Q) := by
  subst hn hd hS hR
  iintro ⟨H1, H2, Hm, Hs, HO, Ht1, Hr1, Ht2, Hr2⟩ Hk
  iapply (Rounds.wp_send_pointsTo 𝒱₀ ER (sched X) (c : Thread nD τ) none (c' := (rot k c : Thread nD τ)) (src := mineM) (dst := slotM (pos c))
    (sS := .dma (sendS k)) (sem := .dma (recvS (pos c))) (q := part k) (fs := X c) (fd := fn)
    (κ₁ := K (sendCell c k)) (κ₂ := K (recvCell (rot k c) (pos c))) (r₁ := 0) (r₂ := 0) (d₁ := 0) (d₂ := 0)
    (by rw [duties_send]; exact Finset.mem_singleton_self _)
    (by rw [duties_recv X (rot k c) (pos c) (pos_rot_ne k c).symm]; exact Finset.mem_singleton_self _)
    () () N rfl (amount_send X c k 0) (amount_recv X (rot k c) (pos c) 0) O rfl (W := W)
    (by rw [payload_send]; exact BI.Entails.refl _)
    (by rw [payload_recv, ← recvPay_landed X (rot k c) (pos c) fn, rowDev_of_rot])) $$ [H1 H2 Hm Hs HO Ht1 Hr1 Ht2 Hr2]
  · iframe
  iintro ⟨Hc, HO⟩
  iapply Hk $$ Hc HO

/-- The wait for what the row mate `rot k c` tells. -/
theorem step_recv {α : Type} (k : Fin 3) (s : Fin 4) (dst : Memref sig .tc .vmem S128x64 .f32) (hd : dst = slotM s) (sR : DmaSem sig)
    (hR : sR = recvS (pos (rot k c))) (W : Waits sig Unit) {hsrc : mineM.view.WordExact} {hdst : dst.view.WordExact}
    {Q : α → sProp 𝕄} {p : PUnit → Prog (TpuEff nD τ sig (Elt F) Λ₀ .tc) α} :
    iprop(cellInv ER (sched X) (K (recvCell c (pos (rot k c)))) (recvCell c (pos (rot k c))) ∗ cred (tallyAt (recvCell c (pos (rot k c))) () N)
        ∗ owes (c : Thread nD τ) 0 W ∗ atPos ER (recvCell c (pos (rot k c))) 0 ∅ 0)
      ⊢ iprop(((∃ W', owes (c : Thread nD τ) 0 W') -∗ atPos ER (recvCell c (pos (rot k c))) (0 + 1) ∅ 0 -∗ recvPay X c (pos (rot k c)) -∗ runs c (p ⟨⟩) Q)
        -∗ runs c (.op (.waitDma2 sR mineM dst hsrc hdst) p) Q) := by
  subst hR hd
  iintro ⟨Hc, Hcr, HO, Hat⟩ Hk
  iapply (Rounds.wp_wait_rest_token 𝒱₀ ER (sched X) (c : Thread nD τ) none (κ := K (recvCell c (pos (rot k c))))
    (wpE_waitDma2_eq (src := mineM) (dst := slotM s) 𝒱₀ (c : Thread nD τ) none Set.univ) (Set.mem_univ _) () (O := 0) (W := W) (R := 0) (m := 0) (T := ∅)
    ((Nat.zero_add _).trans (expect_recv X c _ (pos_rot_ne k c)).symm)) $$ [Hc Hcr HO Hat]
  · isplitl [Hc]; · iexact Hc
    isplitl [Hcr]; · iexact Hcr
    isplitl [HO]; · iexact HO
    isplitr; · rw [MayWait_zero]; iempintro
    iexact Hat
  iintro ⟨HO, Hat, -, Hpay⟩
  ihave Hp := (Entails.of_eq (rest_recv X c (pos (rot k c)) (pos_rot_ne k c))) $$ Hpay
  iapply Hk $$ [HO] Hat Hp
  iexists _; iexact HO

/-- The wait for an own transfer to be done reading. -/
theorem step_sent {α : Type} (k : Fin 3) (src : Memref sig .tc .vmem S128x64 .f32) (sS : DmaSem sig)
    (hS : sS = sendS k) (W : Waits sig Unit) {hsrc : src.view.WordExact} {hdst : mineM.view.WordExact}
    {Q : α → sProp 𝕄} {p : PUnit → Prog (TpuEff nD τ sig (Elt F) Λ₀ .tc) α} :
    iprop(cellInv ER (sched X) (K (sendCell c k)) (sendCell c k) ∗ cred (tallyAt (sendCell c k) () N)
        ∗ owes (c : Thread nD τ) 0 W ∗ atPos ER (sendCell c k) 0 ∅ 0)
      ⊢ iprop(((∃ W', owes (c : Thread nD τ) 0 W') -∗ atPos ER (sendCell c k) (0 + 1) ∅ 0 -∗ sendPay X c k -∗ runs c (p ⟨⟩) Q)
        -∗ runs c (.op (.waitDma2 sS src mineM hsrc hdst) p) Q) := by
  subst hS
  iintro ⟨Hc, Hcr, HO, Hat⟩ Hk
  iapply (Rounds.wp_wait_rest_token 𝒱₀ ER (sched X) (c : Thread nD τ) none (κ := K (sendCell c k))
    (wpE_waitDma2_eq (src := src) (dst := mineM) 𝒱₀ (c : Thread nD τ) none Set.univ) (Set.mem_univ _) () (O := 0) (W := W) (R := 0) (m := 0) (T := ∅)
    ((Nat.zero_add _).trans (expect_send X c k).symm)) $$ [Hc Hcr HO Hat]
  · isplitl [Hc]; · iexact Hc
    isplitl [Hcr]; · iexact Hcr
    isplitl [HO]; · iexact HO
    isplitr; · rw [MayWait_zero]; iempintro
    iexact Hat
  iintro ⟨HO, Hat, -, Hpay⟩
  ihave Hp := (Entails.of_eq (rest_send X c k)) $$ Hpay
  iapply Hk $$ [HO] Hat Hp
  iexists _; iexact HO

end Cert.KernelIdeal.Exchange
end
-- ==== Proof.Talk.lean ====
/-
The stretches of the kernel's body in which a device deals with its row mates: the signals, the wait at the barrier, the
three transfers, and the six waits after them. Each stretch is stated with what it holds and what it gives back.
-/
module

public import proofs.«01_k».proof.Proof.Steps

@[expose] public section

set_option backward.proofsInPublic true

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- The device's coordinates along the three axes, as the kernel computes them; the last is its place in its row. -/
abbrev word2 (c : Dev nD) : BitVec 32 := Scalar.remsi (Scalar.divsi (Dev.word c) 16#32) 2#32
abbrev word5 (c : Dev nD) : BitVec 32 := Scalar.remsi (Scalar.divsi (Dev.word c) 4#32) 4#32
abbrev word8 (c : Dev nD) : BitVec 32 := Scalar.remsi (Scalar.divsi (Dev.word c) 1#32) 4#32
abbrev word9 (c : Dev nD) : BitVec 32 := Scalar.muli (word8 c) 64#32
abbrev word30 : BitVec 32 := Scalar.select (Scalar.cmpi .eq 4#32 0#32) 1#32 4#32
abbrev word31 (c : Dev nD) : BitVec 32 := Scalar.remsi (Scalar.addi (word8 c) 2#32) word30

variable (X : Told F) (K : GSem nD τ sig → ℕ) (c : Dev nD)

/-- What a signal to the row mate `rot k c` takes. -/
abbrev signalKit (k : Fin 3) : sProp 𝕄 :=
  iprop(dutyTok ER (barCell (rot k c)) 0 k.rev ∗ (∃ g, slotPts c (pos (rot k c)) g) ∗ reached ER (recvCell c (pos (rot k c))) 0
    ∗ reached ER (barCell (rot k c)) 0)

/-- What a transfer to it takes. -/
abbrev sendKit (k : Fin 3) : sProp 𝕄 :=
  iprop(minePts c (part k) (X c) ∗ dutyTok ER (sendCell c k) 0 0 ∗ reached ER (sendCell c k) 0
    ∗ dutyTok ER (recvCell (rot k c) (pos c)) 0 0)

/-- What the wait for its transfer takes, and what it gives. -/
abbrev recvKit (k : Fin 3) : sProp 𝕄 :=
  iprop(cred (tallyAt (recvCell c (pos (rot k c))) () N) ∗ atPos ER (recvCell c (pos (rot k c))) 0 ∅ 0)
abbrev recvDone (k : Fin 3) : sProp 𝕄 :=
  iprop(atPos ER (recvCell c (pos (rot k c))) (0 + 1) ∅ 0 ∗ recvPay X c (pos (rot k c)))

/-- What the wait for an own transfer takes, and what it gives. -/
abbrev sentKit (k : Fin 3) : sProp 𝕄 :=
  iprop(cred (tallyAt (sendCell c k) () N) ∗ atPos ER (sendCell c k) 0 ∅ 0)
abbrev sentDone (k : Fin 3) : sProp 𝕄 :=
  iprop(atPos ER (sendCell c k) (0 + 1) ∅ 0 ∗ sendPay X c k)

variable (h0 : aQ.IsWhole) (h1 : aK.IsWhole) (h2 : aV.IsWhole) (h3 : aT.IsWhole) (h4 : aL.IsWhole) (h5 : aO.IsWhole)
  (h6 : qM.IsWhole) (h7 : mineM.IsWhole) (h8 : commM.IsWhole)

/-- The first signal. -/
theorem part1 (W : Waits sig Unit) (Q) :
    iprop(invs X K c ∗ owes (c : Thread nD τ) (owed c) W ∗ signalKit (F := F) c 0
      ∗ (owes (c : Thread nD τ) (owedSends c + toSignal c 2 + toSignal c 1) W
        -∗ Q ⟨c, word2 c, word5 c, word8 c, word9 c, SemArray.scalar (sig.barrier 0 rfl), word30, word31 c, Scalar.cmpi .ne (word31 c) 0#32, 0#32⟩))
    ⊢ runs c (k0_part1 aQ h0 aK h1 aV h2 aT h3 aL h4 aO h5 qM h6 mineM h7 commM h8 cc0_scratch3 cc0_scratch4) Q := by
  rw [k0_part1_eq_skeleton]; unfold k0_part1_skel
  unfold runs invs
  simp only [semSignalWord, Prog.lift, Prog.bind_op, Prog.bind_ret, Prog.pure_eq_ret, wp_deviceId]
  iintro ⟨⟨-, -, -, ⟨#HI, -, -⟩, -⟩, HO, ⟨Ht, ⟨%g, Hs⟩, Hr, Hb⟩, HQ⟩
  iapply (step_signal X K c 0 _ (dev1_eq c) g (owedSends c + toSignal c 2 + toSignal c 1) W) $$ [HO Ht Hs Hr Hb]
  · isplitr; · iexact HI
    isplitl [HO]; · iexact HO
    iframe
  iintro HO
  unfold runs
  rw [wp_ret]; imodintro
  iapply HQ
  iexact HO

/-- The other two signals; the tables of pages are read. -/
theorem part2 (v2 v5 v8 v9 v30 v31 v32 v0) (bt : S8x64.Idx → Elt F .i32) (W : Waits sig Unit) (Q) :
    iprop(invs X K c ∗ owes (c : Thread nD τ) (owedSends c + toSignal c 2 + toSignal c 1) W ∗ signalKit (F := F) c 1 ∗ signalKit (F := F) c 2 ∗ iT c bt
      ∗ (owes (c : Thread nD τ) (owedSends c) W -∗ iT c bt
        -∗ Q ⟨k0_pay2 bt, k0_pay3 v9, iota .tc S8x64x64 32 [1] iota_S8x64x64_d1_w32⟩))
    ⊢ runs c (k0_part2 aQ h0 aK h1 aV h2 aT h3 aL h4 aO h5 qM h6 mineM h7 commM h8 cc0_scratch3 cc0_scratch4 c v2 v5 v8 v9
        (SemArray.scalar (sig.barrier 0 rfl)) v30 v31 v32 v0) Q := by
  rw [k0_part2_eq_skeleton]; unfold k0_part2_skel
  unfold runs invs
  simp only [semSignalWord, Prog.lift, Prog.bind_op, Prog.bind_ret, Prog.pure_eq_ret]
  iintro ⟨⟨-, -, -, ⟨-, #HI1, #HI2⟩, -⟩, HO, ⟨Ht, ⟨%g, Hs⟩, Hr, Hb⟩, ⟨Ht', ⟨%g', Hs'⟩, Hr', Hb'⟩, Hbt, HQ⟩
  iapply (step_signal X K c 1 _ (dev2_eq c) g (owedSends c + toSignal c 2) W) $$ [HO Ht Hs Hr Hb]
  · isplitr; · iexact HI1
    isplitl [HO]; · iexact HO
    iframe
  iintro HO
  iapply (step_signal X K c 2 _ (dev3_eq c) g' (owedSends c) W) $$ [HO Ht' Hs' Hr' Hb']
  · isplitr; · iexact HI2
    isplitl [HO]; · iexact HO
    iframe
  iintro HO
  unfold runs
  iapply (wp_load 𝒱₀ (c : Thread nD τ) none Set.univ (m := aT) (Finset.subset_univ _)) $$ Hbt
  iintro Hbt
  rw [load_bt, wp_ret]; imodintro
  iapply HQ $$ HO Hbt

/-- The row maxima and row sums are stored: the device has its table `X c`. The wait at the barrier, which gives it the places
it writes to; the first transfer. -/
theorem part7 (v2 v5) (v183 : FVec F S64x512 .f32) (v187 : FVec F S8x64 .f32) (v223 : FVec F S64x64 .f32) (g : S128x64.Idx → Elt F .f32)
    (hX : mineM.view.writes (Elt F) g (tablePieces v183 v187 v223) = X c) (W : Waits sig Unit) (Q) :
    iprop(invs X K c ∗ levAts L lv ∗ owes (c : Thread nD τ) (owedSends c) W ∗ tPts c (mineM.view.writes (Elt F) g (tablePieces8 v183 v187))
      ∗ cred (tallyAt (barCell c) () 3) ∗ atPos ER (barCell c) 0 ∅ 0
      ∗ (dutyTok ER (sendCell c 0) 0 0 ∗ reached ER (sendCell c 0) 0 ∗ dutyTok ER (recvCell (rot 0 c) (pos c)) 0 0)
      ∗ ((∃ W', owes (c : Thread nD τ) (toSend c 2 + toSend c 1) W') -∗ atPos ER (barCell c) (0 + 1) ∅ 0
        -∗ minePts c (part 1) (X c) -∗ minePts c (part 2) (X c) -∗ barPay (F := F) c 1 -∗ barPay (F := F) c 2
        -∗ cred (tallyAt (sendCell c 0) () N)
        -∗ Q ⟨word30, word31 c, Scalar.cmpi .ne (word31 c) 0#32, Scalar.cmpi .slt (word31 c) 0#32, Scalar.cmpi .slt word30 0#32⟩))
    ⊢ runs c (k0_part7 aQ h0 aK h1 aV h2 aT h3 aL h4 aO h5 qM h6 mineM h7 commM h8 cc0_scratch3 cc0_scratch4 c v2 v5 (word8 c)
        (SemArray.scalar (sig.barrier 0 rfl)) v223) Q := by
  rw [k0_part7_eq_skeleton]; unfold k0_part7_skel
  unfold runs
  iintro ⟨#HI, Hl, HO, Ht, Hc, Hat, ⟨Hd1, Hr1, Hd2⟩, HQ⟩
  sl_exec
  rw [hX]
  unfold invs
  icases HI with ⟨#HIb, ⟨#HIs, -, -⟩, -, -, ⟨#HIr, -, -⟩⟩
  iapply (step_barrier X K c W) $$ [HO Hl Hc Hat]
  · isplitr; · iexact HIb
    iframe
  iintro ⟨%W', HO⟩ Hat ⟨Hb0, Hb1, Hb2⟩
  ihave Hb0 := (Entails.of_eq (show (barPay c 0 : sProp 𝕄) = iprop((∃ f, slotPts (rot 0 c) (pos c) f) ∗ reached ER (recvCell (rot 0 c) (pos c)) 0) from rfl)) $$ Hb0
  icases Hb0 with ⟨⟨%fn, Hs⟩, Hr2⟩
  unfold runs
  rw [wp_ret]; imodintro
  simp only [Prog.lift, Prog.bind_op, Prog.bind_ret, Prog.pure_eq_ret]
  ihave Ht := (Entails.of_eq (show (tPts c (X c) : sProp 𝕄) = tri fun k => minePts c (part k) (X c) by rw [← mine_split]; unfold tPts minePts; rw [mine_set])) $$ Ht
  icases Ht with ⟨Hm0, Hm1, Hm2⟩
  iapply (step_send X K c 0 _ (dev4_eq c) fn _ (slot_at (pos c) _ _ (off2_eq c)) _ _ send1 (recv_at (pos c) _ _ (off1_eq c)) (toSend c 2 + toSend c 1) W')
    $$ [HO Hm0 Hs Hd1 Hr1 Hd2 Hr2]
  · isplitr; · iexact HIs
    isplitr; · iexact HIr
    isplitl [Hm0]; · iexact Hm0
    isplitl [Hs]; · iexact Hs
    isplitl [HO]; · iexact HO
    iframe
  iintro Hcr HO
  unfold runs
  rw [wp_ret]; imodintro
  iapply HQ $$ [HO] Hat Hm1 Hm2 Hb1 Hb2 Hcr
  iexists _; iexact HO

/-- The second transfer. -/
theorem part8 (v2 v5 v8 v252 v253 v254 v255 v256) (W : Waits sig Unit) (Q) :
    iprop(invs X K c ∗ owes (c : Thread nD τ) (toSend c 2 + toSend c 1) W ∗ sendKit X c 1 ∗ barPay (F := F) c 1
      ∗ ((∃ W', owes (c : Thread nD τ) (toSend c 2) W') -∗ cred (tallyAt (sendCell c 1) () N) -∗ Q ⟨⟩))
    ⊢ runs c (k0_part8 aQ h0 aK h1 aV h2 aT h3 aL h4 aO h5 qM h6 mineM h7 commM h8 cc0_scratch3 cc0_scratch4 c v2 v5 v8 v252 v253 v254 v255 v256) Q := by
  rw [k0_part8_eq_skeleton]; unfold k0_part8_skel
  unfold runs invs barPay
  simp only [Prog.lift, Prog.bind_op, Prog.bind_ret, Prog.pure_eq_ret]
  iintro ⟨⟨-, ⟨-, #HIs, -⟩, -, -, ⟨-, #HIr, -⟩⟩, HO, ⟨Hm, Hd1, Hr1, Hd2⟩, ⟨⟨%fn, Hs⟩, Hr2⟩, HQ⟩
  iapply (step_send X K c 1 _ (dev5_eq c) fn _ (slot_at (pos c) _ _ (off2_eq c)) _ _ send2 (recv_at (pos c) _ _ (off1_eq c)) (toSend c 2) W)
    $$ [HO Hm Hs Hd1 Hr1 Hd2 Hr2]
  · isplitr; · iexact HIs
    isplitr; · iexact HIr
    isplitl [Hm]; · iexact Hm
    isplitl [Hs]; · iexact Hs
    isplitl [HO]; · iexact HO
    iframe
  iintro Hcr HO
  unfold runs
  rw [wp_ret]; imodintro
  iapply HQ $$ [HO] Hcr
  iexists _; iexact HO

theorem off3_0 : k0_off3 c 1#32 = ![(pos (rot 0 c)).val] := off3_eq c 0
theorem off3_1 : k0_off3 c 2#32 = ![(pos (rot 1 c)).val] := off3_eq c 1
theorem off4_0 : k0_off4 c 1#32 = ![(pos (rot 0 c)).val, 0, 0] := off4_eq c 0
theorem off4_1 : k0_off4 c 2#32 = ![(pos (rot 1 c)).val, 0, 0] := off4_eq c 1
theorem off4_2 : k0_off4 c 3#32 = ![(pos (rot 2 c)).val, 0, 0] := off4_eq c 2
theorem off3_2 : k0_off3 c 3#32 = ![(pos (rot 2 c)).val] := off3_eq c 2

/-- The third transfer; the wait for the first row mate's. -/
theorem part9 (v2 v5) (W : Waits sig Unit) (Q) :
    iprop(invs X K c ∗ owes (c : Thread nD τ) (toSend c 2) W ∗ sendKit X c 2 ∗ barPay (F := F) c 2 ∗ recvKit (F := F) c 0
      ∗ (∀ r, (∃ W', owes (c : Thread nD τ) 0 W') -∗ cred (tallyAt (sendCell c 2) () N) -∗ recvDone X c 0 -∗ Q r))
    ⊢ runs c (k0_part9 aQ h0 aK h1 aV h2 aT h3 aL h4 aO h5 qM h6 mineM h7 commM h8 cc0_scratch3 cc0_scratch4 c v2 v5 (word8 c)) Q := by
  rw [k0_part9_eq_skeleton]; unfold k0_part9_skel
  unfold runs invs barPay
  simp only [Prog.lift, Prog.bind_op, Prog.bind_ret, Prog.pure_eq_ret]
  iintro ⟨⟨-, ⟨-, -, #HIs⟩, ⟨#HIv, -, -⟩, -, ⟨-, -, #HIr⟩⟩, HO, ⟨Hm, Hd1, Hr1, Hd2⟩, ⟨⟨%fn, Hs⟩, Hr2⟩, ⟨Hcv, Hav⟩, HQ⟩
  iapply (step_send X K c 2 _ (dev6_eq c) fn _ (slot_at (pos c) _ _ (off2_eq c)) _ _ send3 (recv_at (pos c) _ _ (off1_eq c)) 0 W)
    $$ [HO Hm Hs Hd1 Hr1 Hd2 Hr2]
  · isplitr; · iexact HIs
    isplitr; · iexact HIr
    isplitl [Hm]; · iexact Hm
    isplitl [Hs]; · iexact Hs
    isplitl [HO]; · rw [zero_add]; iexact HO
    iframe
  iintro Hcr HO
  iapply (step_recv X K c 0 (pos (rot 0 c)) _ (slot_at _ _ _ (off4_0 c)) _ (recv_at (pos (rot 0 c)) _ _ (off3_0 c)) W) $$ [HO Hcv Hav]
  · isplitr; · iexact HIv
    iframe
  iintro HO Hav Hp
  unfold runs
  rw [wp_ret]; imodintro
  iapply HQ $$ %_ HO Hcr
  isplitl [Hav]; · iexact Hav
  iexact Hp

/-- The waits for the other two row mates' transfers; the wait for the first own one. -/
theorem part10 (v2 v5 v8 v327 v328 v0) (W : Waits sig Unit) (Q) :
    iprop(invs X K c ∗ owes (c : Thread nD τ) 0 W ∗ recvKit (F := F) c 1 ∗ recvKit (F := F) c 2 ∗ sentKit (F := F) c 0
      ∗ ((∃ W', owes (c : Thread nD τ) 0 W') -∗ recvDone X c 1 -∗ recvDone X c 2 -∗ sentDone X c 0 -∗ Q ⟨⟩))
    ⊢ runs c (k0_part10 aQ h0 aK h1 aV h2 aT h3 aL h4 aO h5 qM h6 mineM h7 commM h8 cc0_scratch3 cc0_scratch4 c v2 v5 v8 v327 v328 v0) Q := by
  rw [k0_part10_eq_skeleton]; unfold k0_part10_skel
  unfold runs invs
  simp only [Prog.lift, Prog.bind_op, Prog.bind_ret, Prog.pure_eq_ret]
  iintro ⟨⟨-, ⟨#HIs, -, -⟩, ⟨-, #HI1, #HI2⟩, -, -⟩, HO, ⟨Hc1, Ha1⟩, ⟨Hc2, Ha2⟩, ⟨Hc3, Ha3⟩, HQ⟩
  iapply (step_recv X K c 1 (pos (rot 1 c)) _ (slot_at _ _ _ (off4_1 c)) _ (recv_at (pos (rot 1 c)) _ _ (off3_1 c)) W) $$ [HO Hc1 Ha1]
  · isplitr; · iexact HI1
    iframe
  iintro ⟨%W1, HO⟩ Ha1 Hp1
  iapply (step_recv X K c 2 (pos (rot 2 c)) _ (slot_at _ _ _ (off4_2 c)) _ (recv_at (pos (rot 2 c)) _ _ (off3_2 c)) W1) $$ [HO Hc2 Ha2]
  · isplitr; · iexact HI2
    iframe
  iintro ⟨%W2, HO⟩ Ha2 Hp2
  iapply (step_sent X K c 0 _ _ send1 W2) $$ [HO Hc3 Ha3]
  · isplitr; · iexact HIs
    iframe
  iintro HO Ha3 Hp3
  unfold runs
  rw [wp_ret]; imodintro
  iapply HQ $$ HO [Ha1 Hp1] [Ha2 Hp2] [Ha3 Hp3]
  · isplitl [Ha1]; · iexact Ha1
    iexact Hp1
  · isplitl [Ha2]; · iexact Ha2
    iexact Hp2
  · isplitl [Ha3]; · iexact Ha3
    iexact Hp3

/-- The waits for the other two own transfers; the device's own table, back in one piece, and the row mates' are read, and
what the exchange leaves in the communication buffer's own place is as it was. -/
theorem part11 (W : Waits sig Unit) (g : S4x128x64.Idx → Elt F .f32) (Q) :
    iprop(invs X K c ∗ owes (c : Thread nD τ) 0 W ∗ sentKit (F := F) c 1 ∗ sentKit (F := F) c 2 ∗ sendPay X c 0
      ∗ slotPts c (pos c) g ∗ (tri fun k => recvPay X c (pos (rot k c)))
      ∗ ((∃ W', owes (c : Thread nD τ) 0 W') -∗ atPos ER (sendCell c 1) (0 + 1) ∅ 0 -∗ atPos ER (sendCell c 2) (0 + 1) ∅ 0
        -∗ tPts c (X c) -∗ commPts c (after X c g)
        -∗ Q ⟨k0_pay32 (word8 c) (X c) (after X c g), k0_pay33 (word8 c) (X c) (after X c g), k0_pay34 (word8 c) (X c) (after X c g),
          k0_pay35 (word8 c) (X c) (after X c g), k0_pay37 (word8 c) (X c) (after X c g), k0_pay38 (word8 c) (X c) (after X c g),
          k0_pay39 (word8 c) (X c) (after X c g), k0_pay40 (word8 c) (X c) (after X c g), k0_pay41 (word8 c) (X c) (after X c g),
          k0_pay42 (word8 c) (X c) (after X c g), k0_pay43 (word8 c) (X c) (after X c g), k0_pay44 (word8 c) (X c) (after X c g),
          k0_pay45 (F := F), k0_pay46 (F := F), k0_pay47 (word8 c) (X c) (after X c g)⟩))
    ⊢ runs c (k0_part11 aQ h0 aK h1 aV h2 aT h3 aL h4 aO h5 qM h6 mineM h7 commM h8 cc0_scratch3 cc0_scratch4 c (word8 c)) Q := by
  rw [k0_part11_eq_skeleton]; unfold k0_part11_skel
  unfold runs invs
  simp only [Prog.lift, Prog.bind_op, Prog.bind_ret, Prog.pure_eq_ret]
  iintro ⟨⟨-, ⟨-, #HI1, #HI2⟩, -, -, -⟩, HO, ⟨Hc1, Ha1⟩, ⟨Hc2, Ha2⟩, Hm0, Hg, Hr, HQ⟩
  iapply (step_sent X K c 1 _ _ send2 W) $$ [HO Hc1 Ha1]
  · isplitr; · iexact HI1
    iframe
  iintro ⟨%W1, HO⟩ Ha1 Hm1
  iapply (step_sent X K c 2 _ _ send3 W1) $$ [HO Hc2 Ha2]
  · isplitr; · iexact HI2
    iframe
  iintro HO Ha2 Hm2
  ihave Ht := (Entails.of_eq (show (tri fun k => sendPay X c k : sProp 𝕄) = tPts c (X c) by
    unfold sendPay; rw [← mine_split]; unfold tPts minePts; rw [mine_set])) $$ [Hm0 Hm1 Hm2]
  · isplitl [Hm0]; · iexact Hm0
    isplitl [Hm1]; · iexact Hm1
    iexact Hm2
  ihave Hg := (Entails.of_eq (comm_join X c g)) $$ [Hg Hr]
  · isplitl [Hg]; · iexact Hg
    iexact Hr
  unfold runs
  iapply (wp_load 𝒱₀ (c : Thread nD τ) none Set.univ (m := mineM) (Finset.subset_univ _)) $$ Ht
  iintro Ht
  iapply (wp_load 𝒱₀ (c : Thread nD τ) none Set.univ (m := commM) (Finset.subset_univ _)) $$ Hg
  iintro Hg
  rw [load_table, load_comm, wp_ret]; imodintro
  iapply HQ $$ HO Ha1 Ha2 Ht Hg

end Cert.KernelIdeal.Exchange
end
-- ==== Proof.Body.lean ====
/-
The kernel's body on one device, whole: what it tells its row mates, what it makes of what all four devices of the row tell,
and the run.
-/
module

public import proofs.«01_k».proof.Proof.Talk

@[expose] public section

set_option backward.proofsInPublic true

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## What is told -/

/-- How often each of the device's keys is asked for by each row. -/
def weights (c : Dev nD) (bt : S8x64.Idx → Elt F .i32) (lens : S8x1.Idx → Elt F .i32) : FVec F S64x1024 .f32 :=
  k0_pay4 (k0_pay2 bt) (k0_pay3 (word9 c)) (iota .tc S8x64x64 32 [1] iota_S8x64x64_d1_w32) lens

/-- The table a device tells: its sums of values above; its row maxima and row sums below. -/
def tell (c : Dev nD) (q : S8x1x8x64.Idx → Elt F .f32) (k v : S1024x512.Idx → Elt F .bf16) (bt : S8x64.Idx → Elt F .i32)
    (lens : S8x1.Idx → Elt F .i32) : S128x64.Idx → Elt F .f32 :=
  table (k0_pay21 (weights c bt lens) (queries q) k v)
    (k0_pay30 (k0_pay18 (weights c bt lens) (queries q) k) (k0_pay20 (weights c bt lens) (queries q) k))

/-! ## What is made of the four tables -/

/-- The row maxima, and the row sums, of a table. -/
def maxima (s : FVec F S128x64 .f32) : FVec F S64x1 .f32 := extractStridedSlice S64x1 ![64, 0] s slices_S128x64_o64_0_S64x1
def sums (s : FVec F S128x64 .f32) : FVec F S64x1 .f32 := extractStridedSlice S64x1 ![64, 32] s slices_S128x64_o64_32_S64x1

/-- The common shift of four tables. -/
def shift (s0 s1 s2 s3 : FVec F S128x64 .f32) : FVec F S64x1 .f32 :=
  maximumf (maximumf (maxima s0) (maxima s1)) (maximumf (maxima s2) (maxima s3))

/-- The result, from four tables. -/
def merge (s0 s1 s2 s3 : FVec F S128x64 .f32) : FVec F S8x1x8x64 .f32 :=
  k0_pay1 (k0_pay48 s0 s1 s2 s3 (maxima s1) (maxima s2) (maxima s3) (sums s0) (sums s1) (sums s2) (sums s3) (shift s0 s1 s2 s3)
    (k0_pay45 (F := F)) (k0_pay46 (F := F)) (subf (maxima s0) (shift s0 s1 s2 s3))) (k0_pay49 (F := F)) (constant S64x64 .f32 0x00000000#32)

/-- The result on device `c`. -/
def result (X : Told F) (c : Dev nD) : FVec F S8x1x8x64 .f32 :=
  merge (X (rowDev c 0)) (X (rowDev c 1)) (X (rowDev c 2)) (X (rowDev c 3))

theorem word8_eq (c : Dev nD) : word8 c = BitVec.ofNat 32 (pos c).val := by revert c; decide +kernel

/-- A device picks its own table for its own place, and the told ones for the others: whatever its own place holds. -/
theorem picked (X : Told F) (c : Dev nD) (g : S4x128x64.Idx → Elt F .f32) (z : Fin 4) (hs hc) :
    Scalar.select (Scalar.cmpi .eq (word8 c) (BitVec.ofNat 32 z.val)) (X c)
      (shapeCast S128x64 (extractStridedSlice S1x128x64 ![z.val, 0, 0] (after X c g) hs) hc) = X (rowDev c z) := by
  rw [word8_eq]
  by_cases h : z = pos c
  · subst h
    rw [show Scalar.cmpi .eq (BitVec.ofNat 32 (pos c).val) (BitVec.ofNat 32 (pos c).val) = 1#1 by generalize pos c = p; revert p; decide, rowDev_pos]
    exact if_pos rfl
  · have hne : Scalar.cmpi .eq (BitVec.ofNat 32 (pos c).val) (BitVec.ofNat 32 z.val) = 0#1 := by
      revert h; generalize pos c = p; revert z p; decide
    rw [hne]
    refine (if_neg (by decide)).trans ?_
    funext i
    obtain ⟨a, b, rfl⟩ : ∃ (a : Fin 128) (b : Fin 64), i = ix2 a b := ⟨i 0, i 1, eq_ix2 i⟩
    unfold shapeCast
    rw [Shape.reshapeEquiv_cons_one]
    refine (extractStridedSlice_apply _ _ hs _ (ix3 z a b) fun x => ?_).trans ?_
    · match x with
      | ⟨0, _⟩ => show z.val = z.val + 0; omega
      | ⟨1, _⟩ => show a.val = 0 + a.val; omega
      | ⟨2, _⟩ => show b.val = 0 + b.val; omega
    · exact if_neg h

/-- The last payloads are the merge of the four tables. -/
theorem merged (X : Told F) (c : Dev nD) (g : S4x128x64.Idx → Elt F .f32) :
    k0_pay1 (k0_pay48 (k0_pay32 (word8 c) (X c) (after X c g)) (k0_pay33 (word8 c) (X c) (after X c g)) (k0_pay34 (word8 c) (X c) (after X c g))
          (k0_pay35 (word8 c) (X c) (after X c g)) (k0_pay37 (word8 c) (X c) (after X c g)) (k0_pay38 (word8 c) (X c) (after X c g))
          (k0_pay39 (word8 c) (X c) (after X c g)) (k0_pay40 (word8 c) (X c) (after X c g)) (k0_pay41 (word8 c) (X c) (after X c g))
          (k0_pay42 (word8 c) (X c) (after X c g)) (k0_pay43 (word8 c) (X c) (after X c g)) (k0_pay44 (word8 c) (X c) (after X c g))
          (k0_pay45 (F := F)) (k0_pay46 (F := F)) (k0_pay47 (word8 c) (X c) (after X c g))) (k0_pay49 (F := F)) (constant S64x64 .f32 0x00000000#32)
      = result X c := by
  unfold result
  rw [← picked X c g 0 slices_S4x128x64_o0_0_0_S1x128x64 shapeCasts_S1x128x64_S128x64,
    ← picked X c g 1 slices_S4x128x64_o1_0_0_S1x128x64 shapeCasts_S1x128x64_S128x64,
    ← picked X c g 2 slices_S4x128x64_o2_0_0_S1x128x64 shapeCasts_S1x128x64_S128x64,
    ← picked X c g 3 slices_S4x128x64_o3_0_0_S1x128x64 shapeCasts_S1x128x64_S128x64]
  rfl

variable (X : Told F) (K : GSem nD τ sig → ℕ) (c : Dev nD)
variable (h0 : aQ.IsWhole) (h1 : aK.IsWhole) (h2 : aV.IsWhole) (h3 : aT.IsWhole) (h4 : aL.IsWhole) (h5 : aO.IsWhole)
  (h6 : qM.IsWhole) (h7 : mineM.IsWhole) (h8 : commM.IsWhole)
variable (q : S8x1x8x64.Idx → Elt F .f32) (k v : S1024x512.Idx → Elt F .bf16) (bt : S8x64.Idx → Elt F .i32) (lens : S8x1.Idx → Elt F .i32)

/-- The operands' staged copies. -/
abbrev operands : sProp 𝕄 := iprop(iQ c q ∗ iK c k ∗ iV c v ∗ iT c bt ∗ iL c lens)
/-- The three buffers, at anything. -/
abbrev buffers (c : Dev nD) : sProp 𝕄 := iprop((∃ f, qPts (F := F) c f) ∗ (∃ f, tPts (F := F) c f) ∗ (∃ f, commPts (F := F) c f))

/-- The body up to its last store. -/
theorem run_part12 (hX : X c = tell c q k v bt lens) (W : Waits sig Unit) (Q) :
    iprop(opened X K c ∗ credits c ∗ levAts L lv ∗ owes (c : Thread nD τ) (owed c) W ∗ operands c q k v bt lens ∗ buffers c
      ∗ ((∃ W', owes (c : Thread nD τ) 0 W') -∗ closed c -∗ operands c q k v bt lens -∗ buffers c
        -∗ ∀ r : FVec F S64x64 .f32, ⌜k0_pay1 r (k0_pay49 (F := F)) (constant S64x64 .f32 0x00000000#32) = result X c⌝ -∗
          Q ⟨r, k0_pay49 (F := F), constant S64x64 .f32 0x00000000#32⟩))
    ⊢ runs c (k0_part12 aQ h0 aK h1 aV h2 aT h3 aL h4 aO h5 qM h6 mineM h7 commM h8 cc0_scratch3 cc0_scratch4) Q := by
  rw [k0_part12_eq_skeleton]; unfold k0_part12_skel opened toks credits
  iintro ⟨⟨#HI, HatB, ⟨HatS0, HatS1, HatS2⟩, ⟨HatR0, HatR1, HatR2⟩, ⟨HrB0, HrB1, HrB2⟩, ⟨HrS0, HrS1, HrS2⟩, ⟨HrR0, HrR1, HrR2⟩,
      ⟨HtB0, HtB1, HtB2⟩, ⟨HtR0, HtR1, HtR2⟩, ⟨HtS0, HtS1, HtS2⟩⟩, ⟨HcB, HcR0, HcR1, HcR2⟩, #Hlev, HO, ⟨HQ, HK, HV, HT, HL⟩,
      ⟨⟨%f, Hf⟩, ⟨%g, Hg⟩, ⟨%m, Hm⟩⟩, Hk⟩
  ihave Hm := (Entails.of_eq (comm_split c m)) $$ Hm
  icases Hm with ⟨Hown, Hs0, Hs1, Hs2⟩
  unfold runs
  rw [wp_bind]
  iapply (part1 X K c h0 h1 h2 h3 h4 h5 h6 h7 h8 W) $$ [-]
  isplitr; · iexact HI
  isplitl [HO]; · iexact HO
  isplitl [HtB0 Hs0 HrR0 HrB0]
  · isplitl [HtB0]; · iexact HtB0
    isplitl [Hs0]; · iexists m; iexact Hs0
    isplitl [HrR0]; · iexact HrR0
    iexact HrB0
  iintro HO
  dsimp only
  rw [wp_bind]
  iapply (part2 X K c h0 h1 h2 h3 h4 h5 h6 h7 h8 _ _ _ _ _ _ _ _ bt W) $$ [-]
  isplitr; · iexact HI
  isplitl [HO]; · iexact HO
  isplitl [HtB1 Hs1 HrR1 HrB1]
  · isplitl [HtB1]; · iexact HtB1
    isplitl [Hs1]; · iexists m; iexact Hs1
    isplitl [HrR1]; · iexact HrR1
    iexact HrB1
  isplitl [HtB2 Hs2 HrR2 HrB2]
  · isplitl [HtB2]; · iexact HtB2
    isplitl [Hs2]; · iexists m; iexact Hs2
    isplitl [HrR2]; · iexact HrR2
    iexact HrB2
  isplitl [HT]; · iexact HT
  iintro HO HT
  dsimp only
  rw [wp_bind]
  iapply (part3 c h0 h1 h2 h3 h4 h5 h6 h7 h8 _ _ _ lens q f) $$ [-]
  isplitl [HL]; · iexact HL
  isplitl [HQ]; · iexact HQ
  isplitl [Hf]; · iexact Hf
  iintro ⟨HL, HQ, Hf⟩
  dsimp only
  rw [wp_bind]
  iapply (part4 c h0 h1 h2 h3 h4 h5 h6 h7 h8 (k0_pay6 q) (k0_pay7 q)) $$ [-]
  isplitl [Hf]; · iexact Hf
  iintro Hf
  rw [wp_bind]
  iapply (part5 c h0 h1 h2 h3 h4 h5 h6 h7 h8 q _ k v g) $$ [-]
  isplitl [HK]; · iexact HK
  isplitl [HV]; · iexact HV
  isplitl [Hg]; · iexact Hg
  isplitl [Hf]; · iexact Hf
  iintro ⟨HK, HV, Hg, Hf⟩
  dsimp only
  rw [wp_bind]
  iapply (part6 c h0 h1 h2 h3 h4 h5 h6 h7 h8 _ _ _ _ g) $$ [-]
  isplitl [Hg]; · iexact Hg
  iintro Hg
  rw [wp_bind]
  iapply (part7 X K c h0 h1 h2 h3 h4 h5 h6 h7 h8 _ _ _ _ _ g ((table_writes g _ _ _ _ _).trans hX.symm) W) $$ [-]
  isplitr; · iexact HI
  isplitr; · iexact Hlev
  isplitl [HO]; · iexact HO
  isplitl [Hg]; · iexact Hg
  isplitl [HcB]; · iexact HcB
  isplitl [HatB]; · iexact HatB
  isplitl [HtS0 HrS0 HtR0]
  · isplitl [HtS0]; · iexact HtS0
    isplitl [HrS0]; · iexact HrS0
    iexact HtR0
  iintro ⟨%W7, HO⟩ HatB Hm1 Hm2 Hb1 Hb2 HcS0
  dsimp only
  rw [wp_bind]
  iapply (part8 X K c h0 h1 h2 h3 h4 h5 h6 h7 h8 _ _ _ _ _ _ _ _ W7) $$ [-]
  isplitr; · iexact HI
  isplitl [HO]; · iexact HO
  isplitl [Hm1 HtS1 HrS1 HtR1]
  · isplitl [Hm1]; · iexact Hm1
    isplitl [HtS1]; · iexact HtS1
    isplitl [HrS1]; · iexact HrS1
    iexact HtR1
  isplitl [Hb1]; · iexact Hb1
  iintro ⟨%W8, HO⟩ HcS1
  rw [wp_bind]
  iapply (part9 X K c h0 h1 h2 h3 h4 h5 h6 h7 h8 _ _ W8) $$ [-]
  isplitr; · iexact HI
  isplitl [HO]; · iexact HO
  isplitl [Hm2 HtS2 HrS2 HtR2]
  · isplitl [Hm2]; · iexact Hm2
    isplitl [HtS2]; · iexact HtS2
    isplitl [HrS2]; · iexact HrS2
    iexact HtR2
  isplitl [Hb2]; · iexact Hb2
  isplitl [HcR0 HatR0]
  · isplitl [HcR0]; · iexact HcR0
    iexact HatR0
  iintro %r9 ⟨%W9, HO⟩ HcS2 ⟨HatR0, Hp0⟩
  rw [wp_bind]
  iapply (part10 X K c h0 h1 h2 h3 h4 h5 h6 h7 h8 _ _ _ _ _ _ W9) $$ [-]
  isplitr; · iexact HI
  isplitl [HO]; · iexact HO
  isplitl [HcR1 HatR1]
  · isplitl [HcR1]; · iexact HcR1
    iexact HatR1
  isplitl [HcR2 HatR2]
  · isplitl [HcR2]; · iexact HcR2
    iexact HatR2
  isplitl [HcS0 HatS0]
  · isplitl [HcS0]; · iexact HcS0
    iexact HatS0
  iintro ⟨%W10, HO⟩ ⟨HatR1, Hp1⟩ ⟨HatR2, Hp2⟩ ⟨HatS0, Hm0⟩
  rw [wp_bind]
  iapply (part11 X K c h0 h1 h2 h3 h4 h5 h6 h7 h8 W10 m) $$ [-]
  isplitr; · iexact HI
  isplitl [HO]; · iexact HO
  isplitl [HcS1 HatS1]
  · isplitl [HcS1]; · iexact HcS1
    iexact HatS1
  isplitl [HcS2 HatS2]
  · isplitl [HcS2]; · iexact HcS2
    iexact HatS2
  isplitl [Hm0]; · iexact Hm0
  isplitl [Hown]; · iexact Hown
  isplitl [Hp0 Hp1 Hp2]
  · isplitl [Hp0]; · iexact Hp0
    isplitl [Hp1]; · iexact Hp1
    iexact Hp2
  iintro HO HatS1 HatS2 Ht Hcomm
  dsimp only
  unfold invs
  icases HI with ⟨#HIb, ⟨#HIs0, #HIs1, #HIs2⟩, ⟨#HIr0, #HIr1, #HIr2⟩, -, -⟩
  imod (close X (K (barCell c)) (barCell c)) $$ [HatB] with HzB
  · isplitr; · iexact HIb
    iexact HatB
  imod (close X (K (sendCell c 0)) (sendCell c 0)) $$ [HatS0] with HzS0
  · isplitr; · iexact HIs0
    iexact HatS0
  imod (close X (K (sendCell c 1)) (sendCell c 1)) $$ [HatS1] with HzS1
  · isplitr; · iexact HIs1
    iexact HatS1
  imod (close X (K (sendCell c 2)) (sendCell c 2)) $$ [HatS2] with HzS2
  · isplitr; · iexact HIs2
    iexact HatS2
  imod (close X (K (recvCell c (pos (rot 0 c)))) (recvCell c (pos (rot 0 c)))) $$ [HatR0] with HzR0
  · isplitr; · iexact HIr0
    iexact HatR0
  imod (close X (K (recvCell c (pos (rot 1 c)))) (recvCell c (pos (rot 1 c)))) $$ [HatR1] with HzR1
  · isplitr; · iexact HIr1
    iexact HatR1
  imod (close X (K (recvCell c (pos (rot 2 c)))) (recvCell c (pos (rot 2 c)))) $$ [HatR2] with HzR2
  · isplitr; · iexact HIr2
    iexact HatR2
  rw [Prog.pure_eq_ret, wp_ret]; imodintro
  iapply Hk $$ HO [HzB HzS0 HzS1 HzS2 HzR0 HzR1 HzR2] [HQ HK HV HT HL] [Hf Ht Hcomm] %_
  · unfold closed
    isplitl [HzB]; · iexact HzB
    isplitl [HzS0 HzS1 HzS2]
    · isplitl [HzS0]; · iexact HzS0
      isplitl [HzS1]; · iexact HzS1
      iexact HzS2
    · isplitl [HzR0]; · iexact HzR0
      isplitl [HzR1]; · iexact HzR1
      iexact HzR2
  · isplitl [HQ]; · iexact HQ
    isplitl [HK]; · iexact HK
    isplitl [HV]; · iexact HV
    isplitl [HT]; · iexact HT
    iexact HL
  · isplitl [Hf]; · iexists _; iexact Hf
    isplitl [Ht]; · iexists _; iexact Ht
    iexists _; iexact Hcomm
  · ipureintro
    exact merged X c m

theorem load_o (f : S8x1x8x64.Idx → Elt F .f32) (w : S8x1x8x64.Idx → Elt F .f32) :
    aO.view.writes (Elt F) f [⟨Rect.unit (s := S8x1x8x64) ![0, 0, 0, 0] S8x1x8x64.size inb_S8x1x8x64_S8x1x8x64_0_0_0_0, w⟩] = w := by
  rw [View.writes_singleton]
  exact Memref.write_access_unit_zero_univ (Elt F) cc0_stg5_0 zero4 _ _ _

/-- The body: from its cells, its operands and its buffers to the result in the output's staged copy. -/
theorem run_body (hX : X c = tell c q k v bt lens) (o : S8x1x8x64.Idx → Elt F .f32) (W : Waits sig Unit) (Q : PUnit → sProp 𝕄) :
    iprop(opened X K c ∗ credits c ∗ levAts L lv ∗ owes (c : Thread nD τ) (owed c) W ∗ operands c q k v bt lens ∗ buffers c ∗ iO c o
      ∗ ((∃ W', owes (c : Thread nD τ) 0 W') -∗ closed c -∗ operands c q k v bt lens -∗ buffers c -∗ iO c (result X c) -∗ Q ⟨⟩))
    ⊢ runs c (cc0_body aQ h0 aK h1 aV h2 aT h3 aL h4 aO h5 qM h6 mineM h7 commM h8 cc0_scratch3 cc0_scratch4) Q := by
  rw [cc0_body_eq_skeleton]; unfold cc0_body_skel
  iintro ⟨Hop, Hcr, Hl, HO, Hin, Hb, Ho, Hk⟩
  unfold runs
  rw [wp_bind]
  iapply (run_part12 X K c h0 h1 h2 h3 h4 h5 h6 h7 h8 q k v bt lens hX W) $$ [-]
  isplitl [Hop]; · iexact Hop
  isplitl [Hcr]; · iexact Hcr
  isplitl [Hl]; · iexact Hl
  isplitl [HO]; · iexact HO
  isplitl [Hin]; · iexact Hin
  isplitl [Hb]; · iexact Hb
  iintro HO Hc Hin Hb %r %hr
  dsimp only
  sl_exec
  rw [wp_ret]; imodintro
  rw [load_o, hr]
  iapply Hk $$ HO Hc Hin Hb Ho

end Cert.KernelIdeal.Exchange
end
-- ==== Proof.Region.lean ====
/-
The call of the kernel as a region of `@main`: what its operands hold when it is entered, its proof data, and its body's
obligation. The operands are the host operations' results; each is staged whole, so a staged copy holds what the array holds.
-/
module

public import proofs.«01_k».proof.Proof.Body
public import proofs.«01_k».proof.Proof.Gen.KernelIdeal.Frame
public import Idealize.ShloMosaic.Lib.Pipeline.RegionTalk

@[expose] public section

set_option backward.proofsInPublic true

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## The operands -/

/-- A device's buffers at launch; after the host operations. -/
abbrev V₀ (c : Dev nD) : Valuation τ sig (Elt F) := fun b => m (c, b)
abbrev V₁ (c : Dev nD) : Valuation τ sig (Elt F) := StableHlo.after hostOps0 (V₀ m c)

/-- The call's operands on device `c`: queries, keys, values, block table, lengths. -/
def opQ (c : Dev nD) : S8x1x8x64.Idx → Elt F .f32 := V₁ m c main_arg0
def opK (c : Dev nD) : S1024x512.Idx → Elt F .bf16 := V₁ m c main_v2
def opV (c : Dev nD) : S1024x512.Idx → Elt F .bf16 := V₁ m c main_v4
def opT (c : Dev nD) : S8x64.Idx → Elt F .i32 := V₁ m c main_arg3
def opL (c : Dev nD) : S8x1.Idx → Elt F .i32 := V₁ m c main_v5

/-- What each device tells its row mates. -/
def told : Told F := fun c => tell c (opQ m c) (opK m c) (opV m c) (opT m c) (opL m c)
/-- What each device's result array ends with. -/
def output (c : Dev nD) : S8x1x8x64.Idx → Elt F .f32 := result (told m) c

/-- After the call. -/
abbrev V₂ (c : Dev nD) : Valuation τ sig (Elt F) := Function.update (V₁ m c) (Proc.devRef .tc main_v6) (output m c)

/-! ## A block is its whole array -/

theorem emb0 (x : S8x1x8x64.Idx) : ((cfg0.win 0).blk t0_0).view.emb x = x := funext fun a => Fin.ext (by
  match a with
  | ⟨0, _⟩ => show 0 * 8 + 1 * (x _).val = _; omega
  | ⟨1, _⟩ => show 0 * 1 + 1 * (x _).val = _; omega
  | ⟨2, _⟩ => show 0 * 8 + 1 * (x _).val = _; omega
  | ⟨3, _⟩ => show 0 * 64 + 1 * (x _).val = _; omega)
theorem emb1 (x : S1024x512.Idx) : ((cfg0.win 1).blk t0_0).view.emb x = x := funext fun a => Fin.ext (by
  match a with
  | ⟨0, _⟩ => show 0 * 1024 + 1 * (x _).val = _; omega
  | ⟨1, _⟩ => show 0 * 512 + 1 * (x _).val = _; omega)
theorem emb2 (x : S1024x512.Idx) : ((cfg0.win 2).blk t0_0).view.emb x = x := funext fun a => Fin.ext (by
  match a with
  | ⟨0, _⟩ => show 0 * 1024 + 1 * (x _).val = _; omega
  | ⟨1, _⟩ => show 0 * 512 + 1 * (x _).val = _; omega)
theorem emb3 (x : S8x64.Idx) : ((cfg0.win 3).blk t0_0).view.emb x = x := funext fun a => Fin.ext (by
  match a with
  | ⟨0, _⟩ => show 0 * 8 + 1 * (x _).val = _; omega
  | ⟨1, _⟩ => show 0 * 64 + 1 * (x _).val = _; omega)
theorem emb4 (x : S8x1.Idx) : ((cfg0.win 4).blk t0_0).view.emb x = x := funext fun a => Fin.ext (by
  match a with
  | ⟨0, _⟩ => show 0 * 8 + 1 * (x _).val = _; omega
  | ⟨1, _⟩ => show 0 * 1 + 1 * (x _).val = _; omega)
theorem emb5 (x : S8x1x8x64.Idx) : ((cfg0.win 5).blk t0_0).view.emb x = x := funext fun a => Fin.ext (by
  match a with
  | ⟨0, _⟩ => show 0 * 8 + 1 * (x _).val = _; omega
  | ⟨1, _⟩ => show 0 * 1 + 1 * (x _).val = _; omega
  | ⟨2, _⟩ => show 0 * 8 + 1 * (x _).val = _; omega
  | ⟨3, _⟩ => show 0 * 64 + 1 * (x _).val = _; omega)

/-! ## The proof data -/

/-- The two of the kernel's semaphores that this call leaves alone: the first send semaphore, and the receive semaphore of
    the device's own place. -/
def idle (c : Dev nD) : sProp 𝕄 :=
  iprop(semVal ((c : Thread nD τ), .dma (⟨6, by show _ < 14; omega⟩ : DmaSem sig)) 0 ∗ semVal (recvCell c (pos c)) 0)

/-- Before the call's one point; after it. -/
def before (c : Dev nD) : sProp 𝕄 :=
  iprop(((∃ K, opened (told m) K c) ∗ credits c ∗ levAts L lv ∗ idle c) ∗ buffers c ∗ ∃ r, prngReg c r)
def afterwards (c : Dev nD) : sProp 𝕄 :=
  iprop((closed (F := F) c ∗ idle c) ∗ buffers (F := F) c ∗ ∃ r, prngReg c r)

def dat (c : Dev nD) : Dat τ (Elt F) Unit ℕ UU ℕ cfg0 c where
  A w := V m c (Pipeline.arrRef spec0 w)
  after w _ := match w with
    | ⟨0, _⟩ => opQ m c
    | ⟨1, _⟩ => opK m c
    | ⟨2, _⟩ => opV m c
    | ⟨3, _⟩ => opT m c
    | ⟨4, _⟩ => opL m c
    | ⟨5, _⟩ => output m c
  Φ t := if t.val = 0 then before m c else afterwards c
  q _ := fullShare
  owed t := if t.val = 0 then owed c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m

theorem owed_start (c : Dev nD) : (pdats (F := F) m 0 c).owed 0 = owed c := by
  show (if ((0 : Fin (cfg0.N + 1)).val = 0) then owed c else 0) = owed c; exact if_pos rfl
theorem owed_first (c : Dev nD) : (dat (F := F) m c).owed t0_0.castSucc = owed c := by
  show (if (t0_0.castSucc : Fin (cfg0.N + 1)).val = 0 then owed c else 0) = owed c; exact if_pos rfl
theorem owed_last (c : Dev nD) : (pdats (F := F) m 0 c).owed (Fin.last _) = 0 := by
  show (if (Fin.last cfg0.N).val = 0 then owed c else 0) = 0
  rw [Fin.val_last, if_neg (by rw [show cfg0.N = 1 from N_0]; decide)]

theorem owesAt_start (c : Dev nD) (t : Fin (cfg0.N + 1)) (O : CellTallies nD τ sig Unit) (h : (dat m c).owed t = O) :
    ((dat m c).owesAt () t : sProp 𝕄) ⊢ iprop(∃ W, owes (c : Thread nD τ) O W) := by
  unfold Dat.owesAt Pipeline.owesWithin; rw [h]
  iintro ⟨%W, -, HO⟩; iexists W; iexact HO
theorem owesAt_end (c : Dev nD) (t : Fin (cfg0.N + 1)) (O : CellTallies nD τ sig Unit) (h : (dat m c).owed t = O) :
    iprop(∃ W, owes (c : Thread nD τ) O W) ⊢ ((dat m c).owesAt () t : sProp 𝕄) := by
  unfold Dat.owesAt Pipeline.owesWithin Dat.bound; rw [h]
  iintro ⟨%W, HO⟩; iexists W
  isplitr; · ipureintro; exact fun _ _ => Or.inl trivial
  iexact HO

/-! ## What the body finds -/

theorem found0 (c : Dev nD) (d) : (dat m c).before 0 t0_0 d = opQ m c := by
  unfold Dat.before; rw [if_pos (fetch0_0 t0_0)]
  exact funext fun x => congrArg (opQ m c) (emb0 x)
theorem found1 (c : Dev nD) (d) : (dat m c).before 1 t0_0 d = opK m c := by
  unfold Dat.before; rw [if_pos (fetch0_1 t0_0)]
  exact funext fun x => congrArg (opK m c) (emb1 x)
theorem found2 (c : Dev nD) (d) : (dat m c).before 2 t0_0 d = opV m c := by
  unfold Dat.before; rw [if_pos (fetch0_2 t0_0)]
  exact funext fun x => congrArg (opV m c) (emb2 x)
theorem found3 (c : Dev nD) (d) : (dat m c).before 3 t0_0 d = opT m c := by
  unfold Dat.before; rw [if_pos (fetch0_3 t0_0)]
  exact funext fun x => congrArg (opT m c) (emb3 x)
theorem found4 (c : Dev nD) (d) : (dat m c).before 4 t0_0 d = opL m c := by
  unfold Dat.before; rw [if_pos (fetch0_4 t0_0)]
  exact funext fun x => congrArg (opL m c) (emb4 x)

/-- The result array after the call. -/
theorem left5 (c : Dev nD) : (dat m c).arrAt 5 cfg0.N = output m c := by
  rw [show cfg0.N = t0_0.val + 1 from N_0, (dat m c).arrAt_succ 5 t0_0, if_pos (flush0_5 t0_0)]
  funext i
  rw [← emb5 i, View.write_emb_of_mem _ _ (Finset.mem_univ _), emb5]
  rfl

omit [FloatOps F] in
theorem owns_buffer (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

set_option maxRecDepth 4000 in
/-- The body's obligation. -/
theorem body (c : Dev nD) : BodyObligation (dat (F := F) m c) defs₀ 𝒱₀ () Set.univ := fun t => by
  obtain rfl := fin_N0 t
  rw [bigSep_W0, bigSep_W0]
  simp only [owns_buffer]
  rw [show (dat m c).Φ t0_0.castSucc = before m c from rfl, show (dat m c).Φ t0_0.succ = afterwards c from rfl]
  unfold before afterwards
  iintro ⟨⟨⟨⟨%K, Hop⟩, Hcr, Hlev, Hid⟩, Hb, Hreg⟩, HO, ⟨%d0, %f0, %e0, H0⟩, ⟨%d1, %f1, %e1, H1⟩, ⟨%d2, %f2, %e2, H2⟩,
    ⟨%d3, %f3, %e3, H3⟩, ⟨%d4, %f4, %e4, H4⟩, ⟨%d5, %f5, %e5, H5⟩⟩
  rw [found0] at e0; rw [found1] at e1; rw [found2] at e2; rw [found3] at e3; rw [found4] at e4
  subst e0 e1 e2 e3 e4
  ihave HO := (owesAt_start m c _ (owed c) (owed_first m c)) $$ HO
  icases HO with ⟨%W, HO⟩
  iapply (run_body (told m) K c (hstage0_0 0) (hstage0_1 0) (hstage0_2 0) (hstage0_3 0) (hstage0_4 0) (hstage0_5 0)
    (Memref.isWhole_whole _) (Memref.isWhole_whole _) (Memref.isWhole_whole _)
    (opQ m c) (opK m c) (opV m c) (opT m c) (opL m c) rfl f5 W _)
  isplitl [Hop]; · iexact Hop
  isplitl [Hcr]; · iexact Hcr
  isplitl [Hlev]; · iexact Hlev
  isplitl [HO]; · iexact HO
  isplitl [H0 H1 H2 H3 H4]
  · isplitl [H0]; · iexact H0
    isplitl [H1]; · iexact H1
    isplitl [H2]; · iexact H2
    isplitl [H3]; · iexact H3
    iexact H4
  isplitl [Hb]; · iexact Hb
  isplitl [H5]; · iexact H5
  iintro HO Hc ⟨H0, H1, H2, H3, H4⟩ Hb H5
  isplitl [Hc Hid Hb Hreg]
  · isplitl [Hc Hid]
    · isplitl [Hc]; · iexact Hc
      iexact Hid
    isplitl [Hb]; · iexact Hb
    iexact Hreg
  isplitl [HO]
  · iapply (owesAt_end m c t0_0.succ 0 (owed_last m c)); iexact HO
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]; · iexists _; isplitr; swap; (· iexact H4); ipureintro; rfl
  iexists _; isplitr; swap; (· iexact H5); ipureintro; rfl

end Cert.KernelIdeal.Exchange
end
-- ==== Proof.Call.lean ====
/-
The call as a segment of `@main`: entering it opens the cells of its send and receive semaphores; leaving it returns every
counter at zero, and the operands' arrays with the result in place.
-/
module

public import proofs.«01_k».proof.Proof.Region

@[expose] public section

set_option backward.proofsInPublic true

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## The counters and buffers a device holds -/

/-- The kernel's own DMA semaphores: four of sending, four of receiving. -/
abbrev osem : Fin 8 → SemLoc sig := fun k => .dma ⟨6 + k.val, by have := k.isLt; show _ < 14; omega⟩

/-- The buffers that stay throughout. -/
def bufs : Finset (DevRef τ sig) := (StableHlo.tcRefs τ sig).filter fun b => ¬ b.isScoped
/-- Those of them the call does not stage. -/
abbrev aside : Finset (DevRef τ sig) := bufs \ Pipeline.arrRefs spec0

omit [FloatOps F] in
theorem unscopedBufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

theorem arr_sub : Pipeline.arrRefs spec0 ⊆ (bufs : Finset (DevRef τ sig)) := by decide

omit [FloatOps F] in
theorem unscopedSems_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

theorem row_nodup : ∀ c : Dev nD, [pos c, pos (rot 0 c), pos (rot 1 c), pos (rot 2 c)].Nodup := by decide +kernel
theorem row_all : ∀ c : Dev nD, Finset.univ = [pos c, pos (rot 0 c), pos (rot 1 c), pos (rot 2 c)].toFinset := by decide +kernel

omit [FloatOps F] in
/-- A row's four places: a device's own, and its three mates'. -/
theorem row_split (c : Dev nD) (Φ : Fin 4 → sProp 𝕄) :
    bigSep Finset.univ Φ = iprop(Φ (pos c) ∗ tri fun k => Φ (pos (rot k c))) := by
  rw [bigSep_univ_eq_bigSepL _ (row_all c) (row_nodup c)]
  rfl

omit [FloatOps F] in
theorem four (Φ : Fin 4 → sProp 𝕄) : bigSep Finset.univ Φ = iprop(Φ 0 ∗ Φ 1 ∗ Φ 2 ∗ Φ 3) := by
  rw [bigSep_univ_eq_bigSepL [(0 : Fin 4), 1, 2, 3] (by decide) (by decide)]; rfl
omit [FloatOps F] in
theorem eight (Φ : Fin 8 → sProp 𝕄) :
    bigSep Finset.univ Φ = iprop((Φ 0 ∗ Φ 1 ∗ Φ 2 ∗ Φ 3) ∗ (Φ 4 ∗ Φ 5 ∗ Φ 6 ∗ Φ 7)) := by
  rw [bigSep_univ_eq_bigSepL [(0 : Fin 8), 1, 2, 3, 4, 5, 6, 7] (by decide) (by decide)]
  refine BI.Entails.antisymm ?_ ?_
  · show iprop(Φ 0 ∗ Φ 1 ∗ Φ 2 ∗ Φ 3 ∗ Φ 4 ∗ Φ 5 ∗ Φ 6 ∗ Φ 7) ⊢ _
    iintro ⟨H0, H1, H2, H3, H4⟩
    isplitl [H0 H1 H2 H3]
    · isplitl [H0]; · iexact H0
      isplitl [H1]; · iexact H1
      isplitl [H2] <;> iassumption
    iexact H4
  · show _ ⊢ iprop(Φ 0 ∗ Φ 1 ∗ Φ 2 ∗ Φ 3 ∗ Φ 4 ∗ Φ 5 ∗ Φ 6 ∗ Φ 7)
    iintro ⟨⟨H0, H1, H2, H3⟩, H4⟩
    isplitl [H0]; · iexact H0
    isplitl [H1]; · iexact H1
    isplitl [H2]; · iexact H2
    isplitl [H3] <;> iassumption

omit [FloatOps F] in
theorem ownSems_eq (c : Dev nD) : (Pipeline.ownSems0 osem c : sProp 𝕄)
    = iprop((semVal ((c : Thread nD τ), .dma (⟨6, by show _ < 14; omega⟩ : DmaSem sig)) 0 ∗ tri fun k => semVal (sendCell c k) 0)
        ∗ (semVal (recvCell c (pos c)) 0 ∗ tri fun k => semVal (recvCell c (pos (rot k c))) 0)) := by
  rw [← row_split c (fun s => semVal (recvCell c s) 0)]
  unfold Pipeline.ownSems0
  rw [eight, four]
  rfl

/-! ## Entering and leaving -/

def Tk (c : Dev nD) : sProp 𝕄 := iprop((∃ K, ghost (told m) K c) ∗ credits c)
def Xk (c : Dev nD) : sProp 𝕄 := iprop((∃ K, opened (told m) K c) ∗ credits c ∗ levAts L lv ∗ idle c)
def Yk (c : Dev nD) : sProp 𝕄 := semVal (barCell c) 0

/-- Opening one cell whose counter is at zero. -/
theorem openCell (κ : ℕ) (g : GSem nD τ sig) : iprop(cellInv ER (sched (told m)) κ g ∗ openTok ER g ∗ semVal g 0)
    ⊢ (|={Set.univ}=> iprop(atPos ER g 0 ∅ 0 ∗ reached ER g 0) : sProp 𝕄) := by
  iintro ⟨#HI, Ho, Hs⟩
  imod (Rounds.cell_open ER (sched (told m)) (g := g) (Set.mem_univ κ)) $$ [Ho Hs] with ⟨Ha, #Hr⟩
  · isplitr; · iexact HI
    isplitl [Ho] <;> iassumption
  imodintro
  isplitl [Ha]; · iexact Ha
  iexact Hr

/-- Opening three. -/
theorem openTri (κ : Fin 3 → ℕ) (g : Fin 3 → GSem nD τ sig) :
    iprop((tri fun k => cellInv ER (sched (told m)) (κ k) (g k)) ∗ (tri fun k => openTok ER (g k)) ∗ (tri fun k => semVal (g k) 0))
    ⊢ (|={Set.univ}=> iprop((tri fun k => atPos ER (g k) 0 ∅ 0) ∗ (tri fun k => reached ER (g k) 0)) : sProp 𝕄) := by
  unfold tri
  iintro ⟨⟨#I0, #I1, #I2⟩, ⟨O0, O1, O2⟩, ⟨S0, S1, S2⟩⟩
  imod (openCell m (κ 0) (g 0)) $$ [O0 S0] with ⟨A0, R0⟩
  · isplitr; · iexact I0
    isplitl [O0] <;> iassumption
  imod (openCell m (κ 1) (g 1)) $$ [O1 S1] with ⟨A1, R1⟩
  · isplitr; · iexact I1
    isplitl [O1] <;> iassumption
  imod (openCell m (κ 2) (g 2)) $$ [O2 S2] with ⟨A2, R2⟩
  · isplitr; · iexact I2
    isplitl [O2] <;> iassumption
  imodintro
  isplitl [A0 A1 A2]
  · isplitl [A0]; · iexact A0
    isplitl [A1] <;> iassumption
  isplitl [R0]; · iexact R0
  isplitl [R1] <;> iassumption

theorem enter (c : Dev nD) : iprop(Tk m c ∗ Pipeline.ownSems0 osem c ∗ levAts L lv) ⊢ (|={Set.univ}=> Xk m c : sProp 𝕄) := by
  rw [ownSems_eq]
  unfold Tk Xk idle
  iintro ⟨⟨⟨%K, Hg⟩, Hcr⟩, ⟨⟨Hi0, Hs⟩, ⟨Hi1, Hr⟩⟩, Hlev⟩
  unfold ghost invs
  icases Hg with ⟨⟨#HIb, #HIs, #HIr, #HIb', #HIr'⟩, Hat, Hos, Hor, Hre, Htok⟩
  imod (openTri m (fun k => K (sendCell c k)) (fun k => sendCell c k)) $$ [Hos Hs] with ⟨Has, Hrs⟩
  · isplitr; · iexact HIs
    isplitl [Hos] <;> iassumption
  imod (openTri m (fun k => K (recvCell c (pos (rot k c)))) (fun k => recvCell c (pos (rot k c)))) $$ [Hor Hr] with ⟨Har, Hrr⟩
  · isplitr; · iexact HIr
    isplitl [Hor] <;> iassumption
  imodintro
  isplitl [Hat Has Har Hre Hrs Hrr Htok]
  · iexists K; unfold opened invs
    isplitr
    · isplitr; · iexact HIb
      isplitr; · iexact HIs
      isplitr; · iexact HIr
      isplitr; · iexact HIb'
      iexact HIr'
    isplitl [Hat]; · iexact Hat
    isplitl [Has]; · iexact Has
    isplitl [Har]; · iexact Har
    isplitl [Hre]; · iexact Hre
    isplitl [Hrs]; · iexact Hrs
    isplitl [Hrr] <;> iassumption
  isplitl [Hcr]; · iexact Hcr
  isplitl [Hlev]; · iexact Hlev
  isplitl [Hi0] <;> iassumption

omit [FloatOps F] in
theorem held_none (c : Dev nD) (W : Valuation τ sig (Elt F)) : (StableHlo.held (c.tc : Thread nD τ) ∅ W : sProp 𝕄) = BI.emp := by
  unfold StableHlo.held; exact BI.bigSep_empty

omit [FloatOps F] in
theorem rest_eq (c : Dev nD) : (Pipeline.scopedRest (Ix := Unit) (Name := ℕ) (U := UU) (Lvl := ℕ) (Val := Elt F)
    (Pipeline.pin (pcfgs (F := F)) adm 0).spec c : sProp 𝕄) = buffers c := scopedRest0_eq c

theorem into (c : Dev nD) : iprop(Pipeline.scopedRest (Pipeline.pin (pcfgs (F := F)) adm 0).spec c ∗ (∃ r, prngReg c r)
      ∗ StableHlo.held (c.tc : Thread nD τ) ∅ (V₁ m c) ∗ Xk m c) ⊢ (pdats m 0 c).Φ 0 := by
  rw [show (pdats m 0 c).Φ 0 = before m c from rfl, held_none]
  rw [rest_eq]
  unfold before Xk
  iintro ⟨Hs, Hp, -, HK, Hc, Hl, Hi⟩
  isplitl [HK Hc Hl Hi]
  · isplitl [HK]; · iexact HK
    isplitl [Hc]; · iexact Hc
    isplitl [Hl] <;> iassumption
  isplitl [Hs]; · iexact Hs
  iexact Hp

theorem outOf (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V₂ m c) ∗ Pipeline.ownSems0 osem c ∗ Yk c) := by
  rw [show (pdats m 0 c).Φ (Fin.last _) = afterwards c from rfl, held_none, ownSems_eq, rest_eq]
  unfold afterwards Yk closed idle
  iintro ⟨⟨⟨Hb, Hs, Hr⟩, Hi0, Hi1⟩, Hbuf, Hp⟩
  isplitl [Hbuf]; · iexact Hbuf
  isplitl [Hp]; · iexact Hp
  isplitr; · iempintro
  isplitl [Hs Hr Hi0 Hi1]
  · isplitl [Hi0 Hs]
    · isplitl [Hi0] <;> iassumption
    isplitl [Hi1] <;> iassumption
  iexact Hb

/-! ## The segment -/

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- The staging semaphores are at the lowest level. -/
theorem stage_level : ∀ (w : Fin 6) (s : Fin (cfg0.win w).nbuf),
    ((cfg0.win w).sem s).val < 10 := by decide

theorem owes_level (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  rw [show (pdats (F := F) m 0 c).owed t = if t.val = 0 then owed c else 0 from rfl] at h
  split at h
  · exact owed_level h
  · exact absurd h (Nat.lt_irrefl 0)

theorem arr_start (c : Dev nD) (w : Fin 6) : (pdats (F := F) m 0 c).arrAt w 0 = V₁ m c (Pipeline.arrRef spec0 w) := rfl

theorem arr_end (c : Dev nD) (w : Fin 6) : (dat (F := F) m c).arrAt w cfg0.N = V₂ m c (Pipeline.arrRef spec0 w) := by
  have hin (w : Fin 6) (hd : (cfg0.win w).isOut = false)
      (hne : Proc.devRef .tc (Pipeline.arrRef spec0 w) ≠ (Proc.devRef .tc main_v6 : DevRef τ sig)) :
      (dat (F := F) m c).arrAt w cfg0.N = V₂ m c (Pipeline.arrRef spec0 w) := by
    refine ((dat m c).arrAt_in w hd _).trans ?_
    show V₁ m c (Pipeline.arrRef spec0 w) = Function.update (V₁ m c) (Proc.devRef .tc main_v6) (output m c) (Proc.devRef .tc (Pipeline.arrRef spec0 w))
    rw [Function.update_of_ne hne]
  match w with
  | ⟨5, _⟩ =>
    refine (left5 m c).trans ?_
    show output m c = Function.update (V₁ m c) (Proc.devRef .tc main_v6) (output m c) (Proc.devRef .tc main_v6)
    rw [Function.update_self]
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hin 4 rfl (by decide)

set_option backward.isDefEq.respectTransparency.types false in
def reg : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ aside (Finset.empty_subset _) kitP rfl (fun c => (body m c).loose)
    (fun _ => 0) owed (fun c => (owed_start m c).trans (zero_add _).symm) (owed_last m) (fun _ => rfl)
    (fun c w => (pdats m 0 c).share_full (fun _ => rfl) w)
    (V₁ m) (V₂ m)
    (fun c b hb => Function.update_of_ne (fun e => by
      subst e; exact absurd hb (by decide)) _ _)
    (Tk m) Yk (Xk m) Yk (enter m) (into m) (outOf m)
    (fun c => by iintro H; imodintro; iexact H)
    (fun _ => 0)
    ⟨fun c w s => by rw [L_tc]; exact Finset.mem_singleton_self _, fun _ w s => (if_neg (not_le.mpr (stage_level w s))).le,
      fun c t g i h => owes_level m c t g i h⟩
    (fun _ => iprop(emp))
    (arr_start m) (arr_end m)

/-- What rides beside the buffers up to the call. -/
def R (c : Dev nD) : sProp 𝕄 :=
  iprop(((∃ K, ghost (told m) K c) ∗ credits c ∗ ∃ r, prngReg c r) ∗ ∃ W, owes (c : Thread nD τ) (owed c) W)

theorem reg_pre (c : Dev nD) : iprop(StableHlo.held (c : Thread nD τ) bufs (V₁ m c) ∗ R m c) ⊢ (reg m).pre c := by
  show _ ⊢ iprop(StableHlo.held (c.tc : Thread nD τ) (Pipeline.arrRefs (τ := τ) spec0) (V₁ m c) ∗ (∃ r, prngReg c r)
    ∗ (StableHlo.held (c.tc : Thread nD τ) aside (V₁ m c) ∗ emp) ∗ Tk m c ∗ ∃ Wd, owes (c : Thread nD τ) (0 + owed c) Wd)
  rw [zero_add, StableHlo.held_sub_split (c.tc : Thread nD τ) arr_sub (V₁ m c)]
  unfold R Tk
  iintro ⟨⟨Ha, Hr⟩, ⟨HK, Hc, Hp⟩, HO⟩
  isplitl [Ha]; · iexact Ha
  isplitl [Hp]; · iexact Hp
  isplitl [Hr]
  · isplitl [Hr]; · iexact Hr
    iempintro
  isplitl [HK Hc]
  · isplitl [HK] <;> iassumption
  iexact HO

theorem reg_post (c : Dev nD) : (reg m).post c
    ⊢ iprop((StableHlo.held (c : Thread nD τ) bufs (V₂ m c) ∗ semVal (barCell c) 0)
        ∗ ∃ W, owes (c : Thread nD τ) (0 : CellTallies nD τ sig Unit) W) := by
  show iprop(StableHlo.held (c.tc : Thread nD τ) (Pipeline.arrRefs (τ := τ) spec0) (V₂ m c) ∗ (∃ r, prngReg c r)
    ∗ (StableHlo.held (c.tc : Thread nD τ) aside (V₂ m c) ∗ emp) ∗ Yk c ∗ ∃ Wd, owes (c : Thread nD τ) (0 : CellTallies nD τ sig Unit) Wd) ⊢ _
  rw [StableHlo.held_sub_split (c.tc : Thread nD τ) arr_sub (V₂ m c)]
  unfold Yk
  iintro ⟨Ha, -, ⟨Hr, -⟩, Hb, HO⟩
  isplitr [HO]
  · isplitl [Ha Hr]
    · isplitl [Ha] <;> iassumption
    iexact Hb
  iexact HO

theorem host_sub : ∀ op ∈ hostOps0 (F := F), op.bufs ⊆ bufs := fun op h => by
  simp only [hostOps0, List.mem_cons, List.not_mem_nil, or_false] at h
  rcases h with rfl | rfl | rfl | rfl | rfl <;> (show ({_, _} : Finset (DevRef τ sig)) ⊆ bufs; decide)
theorem host_fresh : ∀ op ∈ hostOps0 (F := F), op.fresh = ∅ := List.forall_iff_forall_mem.mp hostOps0_fresh

def seg : Pipeline.HostSeg (Name := ℕ) (U := UU) (pcfgs (F := F)) defs₀ 𝒱₀ L lv :=
  Pipeline.HostSeg.ofOps _ _ _ _ _ bufs hostOps0 host_sub host_fresh (V₀ m) (R m)

/-- `@main`: the host operations, then the call. -/
def segs : List (Pipeline.Seg (pcfgs (F := F)) adm (pdats m) () defs₀ 𝒱₀ L lv) := [.host (seg m), .region (reg m)]

theorem main_eq (c : Dev nD) : main (F := F) c = Pipeline.Seg.run (segs m) :=
  main_segs adm (pdats m) () 𝒱₀ L lv (seg m) (reg m) rfl c

end Cert.KernelIdeal.Exchange
end
-- ==== Proof.Start.lean ====
/-
The launch, and the run of the whole program.

At launch every cell of the exchange gets its invariant, each device gets the tokens of the duties it pays, and the credit
for what the others owe it. From there every weakly fair execution terminates, leaves the arguments as they were, the result
array of each device at what the exchange computes, and every semaphore at zero.
-/
module

public import proofs.«01_k».proof.Proof.Call

@[expose] public section

set_option backward.proofsInPublic true

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

/-- A device's cells in the call: to send to its mates, to receive from them. -/
def cellLoc (c : Dev nD) : Fin 2 × Fin 3 → SemLoc sig
  | (0, k) => .dma (sendS k)
  | (1, k) => .dma (recvS (pos (rot k c)))
/-- The duties at a device's cells: where, and which. Each names the mate that pays it by `k`: for the barrier and the
    receive cells it is the mate of which the device is the `k`-th. -/
def dutyLoc (c : Dev nD) : Fin 3 × Fin 3 → SemLoc sig × Fin 3
  | (0, k) => (.reg barS, k.rev)
  | (1, k) => (.dma (recvS (pos (rot k.rev c))), 0)
  | (2, k) => (.dma (sendS k), 0)

theorem cellLoc_inj : ∀ c, Function.Injective (cellLoc c) := by decide +kernel
theorem cellLoc_ne_bar : ∀ c x, cellLoc c x ≠ .reg barS := by decide +kernel
theorem dutyLoc_inj : ∀ c, Function.Injective (dutyLoc c) := by decide +kernel

def barEmb : Dev nD ↪ GSem nD τ sig := ⟨fun c => barCell c, fun _ _ h => congrArg (fun g : GSem nD τ sig => g.1.1) h⟩
def callEmb : Dev nD × (Fin 2 × Fin 3) ↪ GSem nD τ sig :=
  ⟨fun x => ((x.1 : Thread nD τ), cellLoc x.1 x.2), fun x y h => by
    obtain ⟨c, x⟩ := x; obtain ⟨d, y⟩ := y
    obtain rfl : c = d := congrArg (fun g : GSem nD τ sig => g.1.1) h
    exact congrArg (Prod.mk c) (cellLoc_inj c (congrArg Prod.snd h))⟩
def dutyEmb : Dev nD × (Fin 3 × Fin 3) ↪ GSem nD τ sig × ℕ × Fin 3 :=
  ⟨fun x => (((x.1 : Thread nD τ), (dutyLoc x.1 x.2).1), 0, (dutyLoc x.1 x.2).2), fun x y h => by
    obtain ⟨c, x⟩ := x; obtain ⟨d, y⟩ := y
    obtain rfl : c = d := congrArg (fun t : GSem nD τ sig × ℕ × Fin 3 => t.1.1.1) h
    exact congrArg (Prod.mk c) (dutyLoc_inj c (Prod.ext (congrArg (fun t : GSem nD τ sig × ℕ × Fin 3 => t.1.2) h)
      (congrArg (fun t : GSem nD τ sig × ℕ × Fin 3 => t.2.2) h)))⟩

/-- The barrier cells, open from the launch; the call's cells, opened by the call; the duties. -/
abbrev barCells : Finset (GSem nD τ sig) := Finset.univ.map barEmb
abbrev callCells : Finset (GSem nD τ sig) := Finset.univ.map callEmb
abbrev duties : Finset (GSem nD τ sig × ℕ × Fin 3) := Finset.univ.map dutyEmb
abbrev cells : Finset (GSem nD τ sig) := barCells ∪ callCells

theorem disjoint_cells : Disjoint (barCells : Finset (GSem nD τ sig)) callCells := by
  rw [Finset.disjoint_left]
  rintro g h₁ h₂
  obtain ⟨c, -, rfl⟩ := Finset.mem_map.mp h₁
  obtain ⟨x, -, h⟩ := Finset.mem_map.mp h₂
  exact cellLoc_ne_bar x.1 x.2 (congrArg Prod.snd h)

theorem bar_mem (c : Dev nD) : barCell c ∈ cells := Finset.mem_union_left _ (Finset.mem_map_of_mem barEmb (Finset.mem_univ c))
theorem send_mem (c : Dev nD) (k : Fin 3) : sendCell c k ∈ cells :=
  Finset.mem_union_right _ (Finset.mem_map_of_mem callEmb (Finset.mem_univ (c, ((0 : Fin 2), k))))
theorem recv_mem (c : Dev nD) (k : Fin 3) : recvCell c (pos (rot k c)) ∈ cells :=
  Finset.mem_union_right _ (Finset.mem_map_of_mem callEmb (Finset.mem_univ (c, ((1 : Fin 2), k))))
theorem recv_mem' (c : Dev nD) (k : Fin 3) : recvCell (rot k c) (pos c) ∈ cells := by
  have h := recv_mem (rot k c) k.rev
  rwa [rot_rev] at h

/-- The launch element: the staging's, and the exchange's. -/
def u₀ : UU :=
  (initOf (Pipeline.cells (Pipeline.pin (pcfgs (F := F)) adm) cellOf_inj) (Pipeline.launchToks (Pipeline.pin (pcfgs (F := F)) adm) cellOf_inj),
    launchOf barCells callCells duties)

/-- A resource that no device has yet, kept with device 0. -/
def kept (P : sProp 𝕄) (c : Dev nD) : sProp 𝕄 := if c = 0 then P else iprop(emp)
omit [FloatOps F] in
theorem kept_eq (P : sProp 𝕄) : bigSep Finset.univ (kept P) = P := by
  rw [bigSep_univ_at _ (0 : Dev nD), bigSep_congr (s := Finset.univ.erase (0 : Dev nD)) (Ψ := fun _ => (BI.emp : sProp 𝕄))
      fun c hc => by unfold kept; rw [if_neg (Finset.ne_of_mem_erase hc)]; rfl, BI.bigSep_emp_const]
  unfold kept; rw [if_pos rfl]
  exact BI.equiv_iff.mp sep_emp

def G : Dev nD → sProp 𝕄 := kept (BI.own (ER (launchOf barCells callCells duties)))

/-! ## Dealing -/

/-- What every device may look up. -/
def records (κ : GSem nD τ sig → ℕ) : sProp 𝕄 :=
  iprop((bigSep cells fun g => cellInv ER (sched (told m)) (κ g) g) ∗ bigSep barCells fun g => reached ER g 0)

instance records_persistent (κ : GSem nD τ sig → ℕ) : BI.Persistent (records m κ) := by unfold records; infer_instance

theorem inv_of (κ : GSem nD τ sig → ℕ) {g : GSem nD τ sig} (hg : g ∈ cells) : records m κ ⊢ cellInv ER (sched (told m)) (κ g) g := by
  unfold records
  iintro ⟨H, -⟩
  iapply (show (bigSep cells fun g => (cellInv ER (sched (told m)) (κ g) g : sProp 𝕄)) ⊢ cellInv ER (sched (told m)) (κ g) g
    from bigSep_elim hg); iexact H
theorem reached_of (κ : GSem nD τ sig → ℕ) (c : Dev nD) : records m κ ⊢ reached ER (barCell c) 0 := by
  unfold records
  iintro ⟨-, H⟩
  iapply (show (bigSep barCells fun g => (reached ER g 0 : sProp 𝕄)) ⊢ reached ER (barCell c) 0
    from bigSep_elim (Finset.mem_map_of_mem barEmb (Finset.mem_univ c))); iexact H

omit [FloatOps F] in
/-- Three consequences of one persistent resource. -/
theorem tri_of {P : sProp 𝕄} [BI.Persistent P] {Φ : Fin 3 → sProp 𝕄} (h : ∀ k, P ⊢ Φ k) : P ⊢ tri Φ := by
  iintro #H
  isplitr; · iapply (h 0); iexact H
  isplitr; · iapply (h 1); iexact H
  iapply (h 2); iexact H

theorem invs_of (κ : GSem nD τ sig → ℕ) (c : Dev nD) : records m κ ⊢ invs (told m) κ c := by
  unfold invs
  iintro #H
  isplitr; · iapply (inv_of m κ (bar_mem c)); iexact H
  isplitr; · iapply (tri_of fun k => inv_of m κ (send_mem c k)); iexact H
  isplitr; · iapply (tri_of fun k => inv_of m κ (recv_mem c k)); iexact H
  isplitr; · iapply (tri_of fun k => inv_of m κ (bar_mem (rot k c))); iexact H
  iapply (tri_of fun k => inv_of m κ (recv_mem' c k)); iexact H

/-- What one device has to itself. -/
def share (c : Dev nD) : sProp 𝕄 :=
  iprop(atPos ER (barCell c) 0 ∅ 0
    ∗ ((tri fun k => openTok ER (sendCell c k)) ∗ (tri fun k => openTok ER (recvCell c (pos (rot k c))))) ∗ toks c)

theorem ghost_of (κ : GSem nD τ sig → ℕ) (c : Dev nD) : iprop(records m κ ∗ share c) ⊢ iprop(∃ K, ghost (told m) K c) := by
  unfold share ghost
  iintro ⟨#H, Hat, ⟨Hs, Hr⟩, Ht⟩
  iexists κ
  isplitr; · iapply (invs_of m κ c); iexact H
  isplitl [Hat]; · iexact Hat
  isplitl [Hs]; · iexact Hs
  isplitl [Hr]; · iexact Hr
  isplitr; · iapply (tri_of fun k => reached_of m κ (rot k c)); iexact H
  iexact Ht

omit [FloatOps F] in
/-- A family of threes handed round the rows. -/
theorem around (Φ Ψ : Fin 3 → Dev nD → sProp 𝕄) (h : ∀ k c, Φ k (rot k c) = Ψ k c) :
    (bigSep Finset.univ fun c : Dev nD => tri fun k => Φ k c) = bigSep Finset.univ fun c : Dev nD => tri fun k => Ψ k c := by
  have e (k : Fin 3) : (bigSep Finset.univ fun c : Dev nD => Φ k c) = bigSep Finset.univ fun c : Dev nD => Ψ k c := by
    rw [bigSep_univ_equiv (rotEquiv k) (Φ k)]
    exact bigSep_congr fun c _ => h k c
  unfold tri
  rw [bigSep_sep', bigSep_sep', bigSep_sep', bigSep_sep', e 0, e 1, e 2]

omit [FloatOps F] in
theorem three (A B C : Dev nD → sProp 𝕄) : (bigSep Finset.univ fun c => iprop(A c ∗ B c ∗ C c))
    = iprop(bigSep Finset.univ A ∗ bigSep Finset.univ B ∗ bigSep Finset.univ C) := by rw [bigSep_sep', bigSep_sep']

/-- Every duty's token goes to the device that pays it. -/
theorem deal_duties : bigSep duties (fun x => (dutyTok ER x.1 x.2.1 x.2.2 : sProp 𝕄)) = bigSep Finset.univ fun c : Dev nD => toks c := by
  rw [bigSep_map, bigSep_univ_prod]
  have e (c : Dev nD) : (bigSep Finset.univ fun x : Fin 3 × Fin 3 =>
        (dutyTok ER (dutyEmb (c, x)).1 (dutyEmb (c, x)).2.1 (dutyEmb (c, x)).2.2 : sProp 𝕄))
      = iprop((tri fun k => dutyTok ER (barCell c) 0 k.rev) ∗ (tri fun k => dutyTok ER (recvCell c (pos (rot k.rev c))) 0 0)
          ∗ (tri fun k => dutyTok ER (sendCell c k) 0 0)) := by
    rw [bigSep_univ_prod]; simp only [tri_eq]; rfl
  rw [bigSep_congr fun c _ => e c]
  unfold toks
  refine (three _ _ _).trans (Eq.trans ?_ (three _ _ _).symm)
  rw [around (fun k c => dutyTok ER (barCell c) 0 k.rev) (fun k c => dutyTok ER (barCell (rot k c)) 0 k.rev) fun _ _ => rfl,
    around (fun k c => dutyTok ER (recvCell c (pos (rot k.rev c))) 0 0) (fun k c => dutyTok ER (recvCell (rot k c) (pos c)) 0 0)
      fun k c => by rw [rot_rev]]

theorem deal_open : bigSep callCells (fun g => (openTok ER g : sProp 𝕄))
    = bigSep Finset.univ fun c : Dev nD =>
        iprop((tri fun k => openTok ER (sendCell c k)) ∗ (tri fun k => openTok ER (recvCell c (pos (rot k c))))) := by
  rw [bigSep_map, bigSep_univ_prod]
  refine bigSep_congr fun c _ => ?_
  rw [bigSep_univ_prod, BI.bigSep_fin_two, tri_eq, tri_eq]; rfl

/-! ## The launch credit -/

/-- What the others owe one device. -/
def due (c : Dev nD) : CellTallies nD τ sig Unit :=
  tallyAt (recvCell c (pos (rot 0 c))) () N + tallyAt (recvCell c (pos (rot 1 c))) () N + tallyAt (recvCell c (pos (rot 2 c))) () N
    + tallyAt (barCell c) () 1 + tallyAt (barCell c) () 1 + tallyAt (barCell c) () 1

theorem sends_sum (k : Fin 3) : (∑ d : Dev nD, toSend d k.rev) = ∑ d : Dev nD, tallyAt (recvCell d (pos (rot k d))) () N := by
  rw [← Equiv.sum_comp (rotEquiv k) fun d : Dev nD => toSend d k.rev]
  refine Finset.sum_congr rfl fun d _ => ?_
  show tallyAt (recvCell (rot k.rev (rot k d)) (pos (rot k d))) () N = _
  rw [rot_rev]
theorem signals_sum (k : Fin 3) : (∑ d : Dev nD, toSignal d k) = ∑ d : Dev nD, tallyAt (barCell d) () 1 :=
  Equiv.sum_comp (rotEquiv k) fun d : Dev nD => (tallyAt (barCell d) () 1 : CellTallies nD τ sig Unit)

theorem due_sum : (∑ d : Dev nD, owed d) = ∑ d : Dev nD, due d := by
  unfold owed owedSends due
  simp only [Finset.sum_add_distrib]
  rw [signals_sum, signals_sum, signals_sum, ← sends_sum 0, ← sends_sum 1, ← sends_sum 2]
  rfl

theorem due_own (d : Dev nD) (g : GSem nD τ sig) (h : due d g ≠ 0) : g.1 = (d.tc : Thread nD τ) := by
  by_contra hne
  have z (sm : SemLoc sig) (n : ℕ) : (tallyAt ((d : Thread nD τ), sm) () n : CellTallies nD τ sig Unit) g = 0 :=
    tallyAt_ne_cell (fun e => hne (congrArg Prod.fst e)) () n
  refine h ?_
  unfold due
  simp only [Pi.add_apply, z, add_zero]

theorem credits_of (c : Dev nD) : (Pipeline.launchCred owed c : sProp 𝕄) ⊢ credits c := by
  rw [Pipeline.launchCred_of_sum owed due due_sum due_own c]
  unfold due credits
  rw [add_assoc, add_assoc _ (tallyAt (barCell c) () 1), tallyAt_add, tallyAt_add]
  refine (cred_add _ _).1.trans ?_
  iintro ⟨H, Hb⟩
  isplitl [Hb]; · iexact Hb
  ihave H := (cred_add _ _).1 $$ H
  icases H with ⟨H, H2⟩
  ihave H := (cred_add _ _).1 $$ H
  icases H with ⟨H0, H1⟩
  isplitl [H0]; · iexact H0
  isplitl [H1] <;> iassumption

/-! ## The run -/

abbrev T₀ (c : Dev nD) : sProp 𝕄 := iprop(StableHlo.held (c : Thread nD τ) bufs (V₀ m c) ∗ R m c)
abbrev Tₙ (c : Dev nD) : sProp 𝕄 := iprop(StableHlo.held (c : Thread nD τ) bufs (V₂ m c) ∗ semVal (barCell c) 0)

/-- What a device has at launch beside the ghost state. -/
def plain (c : Dev nD) : sProp 𝕄 :=
  iprop(StableHlo.held (c : Thread nD τ) bufs (V₀ m c) ∗ credits c ∗ owes (c : Thread nD τ) (owed c) ∅ ∗ ∃ r, prngReg c r)

theorem T₀_of (κ : GSem nD τ sig → ℕ) (c : Dev nD) : iprop(records m κ ∗ (share c ∗ plain m c)) ⊢ T₀ m c := by
  unfold plain T₀ R
  iintro ⟨#H, Hsh, Hh, Hc, HO, Hp⟩
  isplitl [Hh]; · iexact Hh
  isplitr [HO]
  · isplitl [Hsh]
    · iapply (ghost_of m κ c)
      isplitr; · iexact H
      iexact Hsh
    isplitl [Hc] <;> iassumption
  iexists ∅; iexact HO

theorem init :
    iprop((bigSep Finset.univ fun c : Dev nD => iprop(unscopedBufs c (fun b => m ((c : Thread nD τ).loc b)) ∗ unscopedSems0 c
          ∗ owes (c : Thread nD τ) (owed c) ∅ ∗ Pipeline.launchCred owed c ∗ prngReg c (ρ c) ∗ G c)) ∗ levAts L lv)
      ⊢ (|={Set.univ}=> bigSep Finset.univ (T₀ m) : sProp 𝕄) := by
  have each (c : Dev nD) : iprop(unscopedBufs c (fun b => m ((c : Thread nD τ).loc b)) ∗ unscopedSems0 c
        ∗ owes (c : Thread nD τ) (owed c) ∅ ∗ Pipeline.launchCred owed c ∗ prngReg c (ρ c) ∗ G c)
      ⊢ (iprop(plain m c ∗ (semVal (barCell c) 0 ∗ G c)) : sProp 𝕄) := by
    rw [show unscopedBufs c (fun b => m ((c : Thread nD τ).loc b)) = StableHlo.held (c : Thread nD τ) bufs (V₀ m c) from unscopedBufs_held c (V₀ m c),
      unscopedSems_eq]
    unfold plain
    iintro ⟨Hh, Hs, HO, Hcr, Hp, HG⟩
    ihave Hc := (credits_of (F := F) c) $$ Hcr
    isplitl [Hh Hc HO Hp]
    · isplitl [Hh]; · iexact Hh
      isplitl [Hc]; · iexact Hc
      isplitl [HO]; · iexact HO
      iexists (ρ c); iexact Hp
    isplitl [Hs] <;> iassumption
  iintro ⟨H, -⟩
  ihave H := (show (bigSep Finset.univ fun c : Dev nD => iprop(unscopedBufs c (fun b => m ((c : Thread nD τ).loc b)) ∗ unscopedSems0 c
        ∗ owes (c : Thread nD τ) (owed c) ∅ ∗ Pipeline.launchCred owed c ∗ prngReg c (ρ c) ∗ G c))
      ⊢ (bigSep Finset.univ fun c : Dev nD => iprop(plain m c ∗ (semVal (barCell c) 0 ∗ G c)) : sProp 𝕄)
    from bigSep_mono fun c _ => each c) $$ H
  ihave H := (Entails.of_eq (bigSep_sep' _ _ _)) $$ H; icases H with ⟨Hplain, H⟩
  ihave H := (Entails.of_eq (bigSep_sep' _ _ _)) $$ H; icases H with ⟨Hv, HG⟩
  ihave HG := (show bigSep Finset.univ (G (F := F)) ⊢ BI.own (ER (launchOf barCells callCells duties)) from
    Entails.of_eq (kept_eq (F := F) (BI.own (ER (launchOf barCells callCells duties))))) $$ HG
  imod (Rounds.fund_launch ER (sched (told m)) disjoint_cells (fun g _ h => h) duties) $$ [Hv HG] with ⟨%κ, -, #Hinv, #Hre, Hat, Hop, Htok⟩
  · isplitl [Hv]
    · iapply (show (bigSep Finset.univ fun c : Dev nD => (semVal (barCell c) 0 : sProp 𝕄)) ⊢ bigSep barCells fun g => semVal g 0 from
        Entails.of_eq (bigSep_map (s := Finset.univ) barEmb (Φ := fun g : GSem nD τ sig => (semVal g 0 : sProp 𝕄))).symm) $$ Hv
    iexact HG
  imodintro
  iapply (bigSep_with_persistent (R := records m κ) (Φ := fun c => iprop(share c ∗ plain m c)) fun c _ => T₀_of m κ c)
  isplitr
  · unfold records
    isplitr; · iexact Hinv
    iexact Hre
  iapply (Entails.of_eq (bigSep_sep' _ _ _).symm)
  isplitr [Hplain]
  · unfold share
    iapply (Entails.of_eq (bigSep_sep' _ _ _).symm)
    isplitl [Hat]
    · iapply (show (bigSep barCells fun g => (atPos ER g 0 ∅ 0 : sProp 𝕄)) ⊢ bigSep Finset.univ fun c : Dev nD => atPos ER (barCell c) 0 ∅ 0 from
        Entails.of_eq (bigSep_map (s := Finset.univ) barEmb (Φ := fun g : GSem nD τ sig => (atPos ER g 0 ∅ 0 : sProp 𝕄)))) $$ Hat
    iapply (Entails.of_eq (bigSep_sep' _ _ _).symm)
    isplitl [Hop]
    · iapply (Entails.of_eq (deal_open (F := F))) $$ Hop
    iapply (Entails.of_eq (deal_duties (F := F))) $$ Htok
  iexact Hplain

theorem unscoped_bar : ∀ sm : SemLoc sig, sm.isScoped .tc = false → sm = .reg barS := by decide

/-- A device's end: arguments as they were, the result as the exchange computes it. -/
def Ended (m : (ℓ : Loc nD τ sig) → Buf (Elt F) ℓ) (s : MemSt nD τ sig (Elt F)) (c : Dev nD) : Prop :=
  s.mem ((c : Thread nD τ).loc main_arg0) = m ((c : Thread nD τ).loc main_arg0)
  ∧ s.mem ((c : Thread nD τ).loc main_arg1) = m ((c : Thread nD τ).loc main_arg1)
  ∧ s.mem ((c : Thread nD τ).loc main_arg2) = m ((c : Thread nD τ).loc main_arg2)
  ∧ s.mem ((c : Thread nD τ).loc main_arg3) = m ((c : Thread nD τ).loc main_arg3)
  ∧ s.mem ((c : Thread nD τ).loc main_arg4) = m ((c : Thread nD τ).loc main_arg4)
  ∧ s.mem ((c : Thread nD τ).loc main_v6) = output m c

theorem held_end (c : Dev nD) : (StableHlo.held (c : Thread nD τ) bufs (V₂ m c) : sProp 𝕄)
    ⊢ iprop((((c : Thread nD τ).loc main_arg0) ↦{fullShare} m ((c : Thread nD τ).loc main_arg0))
      ∗ (((c : Thread nD τ).loc main_arg1) ↦{fullShare} m ((c : Thread nD τ).loc main_arg1))
      ∗ (((c : Thread nD τ).loc main_arg2) ↦{fullShare} m ((c : Thread nD τ).loc main_arg2))
      ∗ (((c : Thread nD τ).loc main_arg3) ↦{fullShare} m ((c : Thread nD τ).loc main_arg3))
      ∗ (((c : Thread nD τ).loc main_arg4) ↦{fullShare} m ((c : Thread nD τ).loc main_arg4))
      ∗ (((c : Thread nD τ).loc main_v6) ↦{fullShare} output m c)) := by
  have e (b : Ref sig .tc) (hb : Proc.devRef .tc b ≠ (Proc.devRef .tc main_v6 : DevRef τ sig))
      (h : V₁ m c (Proc.devRef .tc b) = m ((c : Thread nD τ).loc b)) : V₂ m c (Proc.devRef .tc b) = m ((c : Thread nD τ).loc b) :=
    (Function.update_of_ne hb (output m c) (V₁ m c)).trans h
  have e6 : V₂ m c (Proc.devRef .tc main_v6) = output m c := Function.update_self (Proc.devRef .tc main_v6) (output m c) (V₁ m c)
  unfold StableHlo.held
  refine (bigSep_subset (t := [Proc.devRef .tc main_arg0, Proc.devRef .tc main_arg1, Proc.devRef .tc main_arg2,
    Proc.devRef .tc main_arg3, Proc.devRef .tc main_arg4, Proc.devRef .tc main_v6].toFinset) (by decide)).trans ?_
  rw [bigSep_eq_bigSepL _ (by decide)]
  rw [← e main_arg0 (by decide) (V_main_arg0 m c), ← e main_arg1 (by decide) (V_main_arg1 m c), ← e main_arg2 (by decide) (V_main_arg2 m c),
    ← e main_arg3 (by decide) (V_main_arg3 m c), ← e main_arg4 (by decide) (V_main_arg4 m c), ← e6]
  exact BI.Entails.refl _

set_option backward.isDefEq.respectTransparency.types false in
/-- The run. -/
theorem run_main : θ_run defs (onTc (τ := τ) (main (F := F))) ⟨m, fun _ => 0, ρ⟩
    (fun r => (∀ c : Dev nD, Ended m r.2 c) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := owed) (hL := L_of_ne) (G := G) (u₀ := u₀)
    (hu₀ := by
      unfold u₀ G
      iintro Hu
      ihave H := (ownU_pair _ _) $$ Hu
      icases H with ⟨HP, HX⟩
      imodintro
      isplitl [HP]; · iexact HP
      rw [kept_eq]; iexact HX)
    (T₀ := T₀ m) (Tₙ := Tₙ m)
    (hch := ⟨fun c => .rfl, fun c => reg_pre m c, fun c => reg_post m c⟩)
    (hinit := init m ρ)
    (QY := fun c s => Ended m s c ∧ s.sem (barCell c) = 0)
    (hfin := fun c s => by
      dsimp only [Tₙ]
      iintro ⟨⟨Hh, Hb⟩, HSI⟩
      ihave Hh := (held_end m c) $$ Hh
      icases Hh with ⟨H0, H1, H2, H3, H4, H5⟩
      icombine HSI H0 gives %h0
      icombine HSI H1 gives %h1
      icombine HSI H2 gives %h2
      icombine HSI H3 gives %h3
      icombine HSI H4 gives %h4
      icombine HSI H5 gives %h5
      icombine HSI Hb gives %hb
      imodintro
      isplitr
      · ipureintro
        exact ⟨⟨Buf.eq_of_forall_mem_univ h0, Buf.eq_of_forall_mem_univ h1, Buf.eq_of_forall_mem_univ h2, Buf.eq_of_forall_mem_univ h3,
          Buf.eq_of_forall_mem_univ h4, Buf.eq_of_forall_mem_univ h5⟩, by simpa using hb⟩
      iexact HSI)
    (hQ := fun s h hs => ⟨fun c => (h c).1,
      sem_eq_zero hs fun c sm hsm => by
        obtain rfl := unscoped_bar sm hsm
        exact (h c).2⟩)

end Cert.KernelIdeal.Exchange
end
-- ==== Proof.Same.lean ====
/-
The program as printed and its idealization have one text (no operation of it is rewritten), in two namespaces; here their tables of
bodies are shown equal, so what is proved of one run is proved of the other's.
-/
module

public import proofs.«01_k».proof.Defs
public import proofs.«01_k».proof.Proof.Gen.Kernel
public import proofs.«01_k».proof.Proof.Gen.KernelIdeal

@[expose] public section

noncomputable section

namespace Cert.Proof

open Idealize.ShloMosaic Idealize.SL.Sem

variable {F : FTy → Type} [FloatOps F]

attribute [local instance] Cert.Kernel.Gen.facts Cert.KernelIdeal.Gen.facts

theorem same_bodies : (Cert.Kernel.defs₀ (F := F)) = (Cert.KernelIdeal.defs₀ (F := F)) := by
  unfold Cert.Kernel.defs₀ Cert.KernelIdeal.defs₀
  refine congrArg Defs.onTc ?_
  funext l a
  match l, a with
  | 0, (t, s) => rfl

theorem same_defs : (Cert.Kernel.defs (F := F)) = (Cert.KernelIdeal.defs (F := F)) :=
  congrArg (Pipeline.defs (Cert.Kernel.pcfgs (F := F))) same_bodies

end Cert.Proof

end
-- ==== Proof.Words.lean ====
/-
The words and the float literals of the program, read: which key a word names, and what the four constants are as extended reals.
-/
module

public import proofs.«01_k».proof.Proof.Body
public import Idealize.ShloMosaic.Lib.Pointwise

@[expose] public section

noncomputable section

namespace Cert.KernelIdeal.Exchange

open Idealize.ShloMosaic Idealize.ShloMosaic.TcCoe
open Cert.KernelIdeal Cert.KernelIdeal.Gen

/-- An equality of words as a float is one or zero. -/
theorem flag (a b : BitVec 32) : FloatOps.sitofp (F := Ideal) .f32 (BitVec.setWidth 32 (IntOp.cmpi .eq a b)) = if a = b then 1 else 0 := by
  show (((BitVec.setWidth 32 (BitVec.ofBool (a == b))).toInt : ℝ) : EReal) = _
  by_cases h : a = b
  · subst h; simp
  · rw [if_neg h, beq_eq_false_iff_ne.2 h]; simp

theorem ofNat_inj {a b : ℕ} (ha : a < 2 ^ 32) (hb : b < 2 ^ 32) : BitVec.ofNat 32 a = BitVec.ofNat 32 b ↔ a = b :=
  ⟨fun h => by have := congrArg BitVec.toNat h; rwa [BitVec.toNat_ofNat, BitVec.toNat_ofNat, Nat.mod_eq_of_lt ha, Nat.mod_eq_of_lt hb] at this, fun h => h ▸ rfl⟩

/-- Key `i` of a device lies in its page `i / 16`. -/
theorem key_page (i : Fin 1024) : IntOp.shrsi ArithUnit.vector (BitVec.ofNat 32 i.val) 4#32 = BitVec.ofNat 32 (i.val / 16) := by
  revert i; decide +kernel

/-- Row `r` is of sequence `r % 8`. -/
theorem row_seq (r : Fin 64) : IntOp.andi (BitVec.ofNat 32 r.val) 7#32 = BitVec.ofNat 32 (r.val % 8) := by
  revert r; decide +kernel

/-- Page `p` of the device at place `z` is page `64 z + p` of all. -/
theorem page_word (c : Dev nD) (p : Fin 64) : IntOp.addi (word9 c) (BitVec.ofNat 32 p.val) = BitVec.ofNat 32 ((pos c).val * 64 + p.val) := by
  revert c p; decide +kernel

/-- The result's row `(b, h)` is row `8 h + b` of the sums. -/
theorem row_word (b h : Fin 8) : IntOp.addi (IntOp.muli (IntOp.andi (BitVec.ofNat 32 (b.val * 8 + h.val)) 7#32) 8#32)
      (IntOp.shrsi ArithUnit.vector (BitVec.ofNat 32 (b.val * 8 + h.val)) 3#32) = BitVec.ofNat 32 (h.val * 8 + b.val) := by
  revert b h; decide +kernel

theorem eighth : Ideal.ofBits FTy.f32 0x3E000000#32 = ((1 / 8 : ℝ) : EReal) := by
  simp [Ideal.ofBits, Ideal.ieee, -EReal.coe_mul]; norm_num

theorem bottom : Ideal.ofBits FTy.f32 0xFF800000#32 = ⊥ := by
  simp [Ideal.ofBits, Ideal.ieee]

/-- The score in place of one that is not asked for is some real. -/
theorem low_real : ∃ r : ℝ, Ideal.ofBits FTy.f32 0xF149F2CA#32 = (r : EReal) :=
  ⟨_, by simp [Ideal.ofBits, Ideal.ieee, -EReal.coe_mul]; rfl⟩

end Cert.KernelIdeal.Exchange

end
-- ==== Proof.Held.lean ====
/-
What one device computes of its own pages, read entry by entry over the extended reals: how often each key is asked for, the query
buffer, the scores, and the table it tells.
-/
module

public import proofs.«01_k».proof.Proof.Words

@[expose] public section

set_option maxRecDepth 16384

noncomputable section

namespace Cert.KernelIdeal.Exchange

open Idealize.ShloMosaic Idealize.ShloMosaic.TcCoe
open Cert.KernelIdeal Cert.KernelIdeal.Gen

/-- Slot `s` is among the first `l`. -/
def live (l : BitVec 32) (s : ℕ) : Prop := IntOp.cmpi .slt (BitVec.ofNat 32 s) l = 1#1

instance (l : BitVec 32) (s : ℕ) : Decidable (live l s) := inferInstanceAs (Decidable (_ = _))

/-- How many live slots of a row of the table name page `p`. -/
def asked (bt : Fin 64 → BitVec 32) (l : BitVec 32) (p : ℕ) : ℕ := (Finset.univ.filter fun s : Fin 64 => bt s = BitVec.ofNat 32 p ∧ live l s.val).card

theorem hits (bt : Fin 64 → BitVec 32) (l : BitVec 32) (p : ℕ) :
    ∑ s : Fin 64, Scalar.select (IntOp.andi (IntOp.cmpi .eq (bt s) (BitVec.ofNat 32 p)) (IntOp.cmpi .slt (BitVec.ofNat 32 s.val) l)) (1 : EReal) 0
      = ((asked bt l p : ℝ) : EReal) := by
  have h1 (s : Fin 64) : Scalar.select (IntOp.andi (IntOp.cmpi .eq (bt s) (BitVec.ofNat 32 p)) (IntOp.cmpi .slt (BitVec.ofNat 32 s.val) l)) (1 : EReal) 0
      = if bt s = BitVec.ofNat 32 p ∧ live l s.val then 1 else 0 := by
    have ha (a b : BitVec 1) : IntOp.andi a b = 1#1 ↔ a = 1#1 ∧ b = 1#1 := by revert a b; decide
    have he : IntOp.cmpi .eq (bt s) (BitVec.ofNat 32 p) = 1#1 ↔ bt s = BitVec.ofNat 32 p := by
      show BitVec.ofBool (bt s == BitVec.ofNat 32 p) = 1#1 ↔ _
      by_cases h : bt s = BitVec.ofNat 32 p
      · simp [h]
      · simp [beq_eq_false_iff_ne.2 h, h]
    unfold Scalar.select
    refine if_congr ?_ rfl rfl
    rw [show (1 : BitVec 1) = 1#1 from rfl, ha, he]
    rfl
  rw [Finset.sum_congr rfl fun s _ => h1 s, Finset.sum_boole]
  rfl

/-- How often each key is asked for. -/
theorem weights_apply (c : Dev nD) (bt : S8x64.Idx → BitVec 32) (lens : S8x1.Idx → BitVec 32) (r : Fin 64) (i : Fin 1024) :
    weights (F := Ideal) c bt lens (ix2 r i)
      = ((asked (fun s => bt (ix2 ⟨r.val % 8, by omega⟩ s)) (lens (ix2 ⟨r.val % 8, by omega⟩ 0)) ((pos c).val * 64 + i.val / 16) : ℝ) : EReal) := by
  pointwise [weights, k0_pay2, k0_pay3, k0_pay4]
  rw [Finset.sum_eq_single (⟨r.val % 8, by omega⟩ : Fin 8)]
  · rw [flag, row_seq, if_pos rfl, one_mul, Finset.sum_eq_single (⟨i.val / 16, by omega⟩ : Fin 64)]
    · rw [flag, key_page, if_pos rfl, mul_one, page_word]
      exact hits ..
    · intro p _ hp
      rw [flag, key_page, if_neg (fun h => hp (Fin.ext ((ofNat_inj (by omega) (by omega)).1 h))), mul_zero]
    · exact fun h => absurd (Finset.mem_univ _) h
  · intro b _ hb
    rw [flag, row_seq, if_neg (fun h => hb (Fin.ext ((ofNat_inj (by omega) (by omega)).1 h).symm)), zero_mul]
  · exact fun h => absurd (Finset.mem_univ _) h

/-- Head `h`'s scaled queries are in the rows from `8 h` and the columns from `64 h`; the rest is zero. -/
def spread (q : S8x1x8x64.Idx → EReal) : S64x512.Idx → EReal := fun i =>
  if (i 1).val / 64 = (i 0).val / 8
  then q (ix4 ⟨(i 0).val % 8, by omega⟩ 0 ⟨(i 0).val / 8, by have : (i 0).val < 64 := (i 0).isLt; omega⟩ ⟨(i 1).val % 64, by omega⟩) * Ideal.ofBits FTy.f32 0x3E000000#32
  else 0

theorem spread_block (q : S8x1x8x64.Idx → EReal) (h : ℕ) (hh : h < 8) (inb) (a : Fin 8) (d : Fin 64) :
    q (ix4 a 0 ⟨h, hh⟩ d) * Ideal.ofBits FTy.f32 0x3E000000#32 = spread q ((Rect.unit (s := S64x512) ![8 * h, 64 * h] S8x64.size inb).emb (ix2 a d)) := by
  have e0 : ((Rect.unit (s := S64x512) ![8 * h, 64 * h] S8x64.size inb).emb (ix2 a d) 0).val = 8 * h + 1 * a.val := rfl
  have e1 : ((Rect.unit (s := S64x512) ![8 * h, 64 * h] S8x64.size inb).emb (ix2 a d) 1).val = 64 * h + 1 * d.val := rfl
  unfold spread
  rw [if_pos (by rw [e0, e1]; omega)]
  refine congrArg (fun i => q i * _) ?_
  refine congr (congr (congr (congrArg ix4 (Fin.ext ?_)) rfl) (Fin.ext ?_)) (Fin.ext ?_)
  · show a.val = _ % 8; rw [e0]; omega
  · show h = _ / 8; rw [e0]; omega
  · show d.val = _ % 64; rw [e1]; omega

theorem queries_eq (q : S8x1x8x64.Idx → EReal) : queries (F := Ideal) q = spread q := by
  funext i
  change qM.view.read (Elt Ideal) (queries (F := Ideal) q) i = _
  unfold queries
  by_cases hi : ∃ p ∈ queryPieces (F := Ideal) (k0_pay6 q) (k0_pay7 q) (k0_pay14 (k0_pay6 q)), i ∈ p.1.set
  · refine View.read_writes_apply_of_pieces qM.view _ (spread q) _ (fun p hp x => ?_) i hi
    simp only [queryPieces, queryPieces6, List.mem_cons, List.not_mem_nil, or_false] at hp
    rcases hp with rfl | rfl | rfl | rfl | rfl | rfl | rfl | rfl <;>
      (obtain ⟨a, d, rfl⟩ : ∃ (a : Fin 8) (d : Fin 64), x = ix2 a d := ⟨x 0, x 1, eq_ix2 x⟩)
    · refine Eq.trans ?_ (spread_block q 7 (by decide) inb_S64x512_S8x64_56_448 a d); pointwise [k0_pay16, k0_pay6]
    · refine Eq.trans ?_ (spread_block q 6 (by decide) inb_S64x512_S8x64_48_384 a d); pointwise [k0_pay15, k0_pay14, k0_pay6]
    · refine Eq.trans ?_ (spread_block q 5 (by decide) inb_S64x512_S8x64_40_320 a d); pointwise [k0_pay13, k0_pay6]
    · refine Eq.trans ?_ (spread_block q 4 (by decide) inb_S64x512_S8x64_32_256 a d); pointwise [k0_pay12, k0_pay6]
    · refine Eq.trans ?_ (spread_block q 3 (by decide) inb_S64x512_S8x64_24_192 a d); pointwise [k0_pay11, k0_pay6]
    · refine Eq.trans ?_ (spread_block q 2 (by decide) inb_S64x512_S8x64_16_128 a d); pointwise [k0_pay10, k0_pay6]
    · refine Eq.trans ?_ (spread_block q 1 (by decide) inb_S64x512_S8x64_8_64 a d); pointwise [k0_pay9, k0_pay6]
    · refine Eq.trans ?_ (spread_block q 0 (by decide) inb_S64x512_S8x64_0_0 a d); pointwise [k0_pay8, k0_pay7, k0_pay6]
  · rw [View.read_writes_apply_of_forall_not_mem _ _ _ _ fun p hp hm => hi ⟨p, hp, hm⟩]
    refine Eq.trans (b := 0) ?_ (if_neg fun heq => hi ?_).symm
    · show k0_pay5 (F := Ideal) i = 0
      pointwise [k0_pay5]
    · have h0 : (i 0).val < 64 := (i 0).isLt
      have h1 : (i 1).val < 512 := (i 1).isLt
      have within (o o' : ℕ) (inb) (h : (o ≤ (i 0).val ∧ (i 0).val < o + 8) ∧ o' ≤ (i 1).val ∧ (i 1).val < o' + 64) :
          i ∈ (Rect.unit (s := S64x512) ![o, o'] S8x64.size inb).set := by
        rw [Rect.mem_set_unit]
        intro a
        match a with
        | ⟨0, _⟩ => exact h.1
        | ⟨1, _⟩ => exact h.2
      simp only [queryPieces, queryPieces6, List.mem_cons, List.not_mem_nil, or_false, exists_eq_or_imp, exists_eq_left]
      have hh : (i 0).val / 8 = 7 ∨ (i 0).val / 8 = 6 ∨ (i 0).val / 8 = 5 ∨ (i 0).val / 8 = 4 ∨ (i 0).val / 8 = 3 ∨ (i 0).val / 8 = 2
          ∨ (i 0).val / 8 = 1 ∨ (i 0).val / 8 = 0 := by omega
      exact hh.imp (fun h => within 56 448 _ (by omega)) fun hh => hh.imp (fun h => within 48 384 _ (by omega)) fun hh =>
        hh.imp (fun h => within 40 320 _ (by omega)) fun hh => hh.imp (fun h => within 32 256 _ (by omega)) fun hh =>
        hh.imp (fun h => within 24 192 _ (by omega)) fun hh => hh.imp (fun h => within 16 128 _ (by omega)) fun hh =>
        hh.imp (fun h => within 8 64 _ (by omega)) fun h => within 0 0 _ (by omega)

end Cert.KernelIdeal.Exchange

end
-- ==== Proof.Softmax.lean ====
/-
A softmax average of keys that are dealt to several holders, over the extended reals; nothing here speaks of a program.

One side sums over the keys themselves: each live key `j` has a real score and a value, a dead key's score is `⊥`, and every score is
shifted by the largest (`average`). The other side sums over places: place `p` is asked for by the `w p` live keys that point at it, a
place nobody asks for has some other real score in place of its own, and its shift is another real (`holder`, `dealt`). The shifts
cancel in the quotient of the two sums (`above` and `below`), so the two agree.

The values may be infinite: every coefficient is a nonnegative real.
-/
module

public import Idealize.ShloMosaic.PureOps.Ideal

@[expose] public section

noncomputable section

namespace Cert.Softmax

open Idealize.ShloMosaic

/-- A nonnegative real factor goes into a sum. -/
theorem coe_mul_sum {ι : Type*} (c : ℝ) (hc : 0 ≤ c) (s : Finset ι) (f : ι → EReal) : (c : EReal) * ∑ i ∈ s, f i = ∑ i ∈ s, (c : EReal) * f i := by
  classical
  induction s using Finset.induction_on with
  | empty => simp
  | insert a s ha ih =>
    rw [Finset.sum_insert ha, Finset.sum_insert ha, EReal.left_distrib_of_nonneg_of_ne_top (by exact_mod_cast hc) (EReal.coe_ne_top c), ih]

/-- A sum of reals. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A sum over places, each counted as often as it is pointed at, is the sum over the pointers. -/
theorem sum_counted {J P : Type*} [Fintype P] [DecidableEq P] (live : Finset J) (dest : J → P) (f : P → EReal) :
    ∑ p, (((live.filter fun j => dest j = p).card : ℝ) : EReal) * f p = ∑ j ∈ live, f (dest j) := by
  rw [← Finset.sum_fiberwise live dest]
  refine Finset.sum_congr rfl fun p _ => ?_
  rw [Finset.sum_congr rfl (g := fun _ => f p) fun j hj => by rw [(Finset.mem_filter.1 hj).2], Finset.sum_const, EReal.nsmul_eq_mul]
  rfl

/-- One place: the holder's shift and the common one leave the score shifted by the common one alone. -/
theorem place (w : ℕ) (t low m c : ℝ) (u : EReal) :
    ((Real.exp (m - c) : ℝ) : EReal) * (Ideal.exp ((if 0 < ((w : ℝ) : EReal) then (t : EReal) else (low : EReal)) - (m : EReal)) * ((w : ℝ) : EReal) * u)
      = ((w : ℝ) : EReal) * (((Real.exp (t - c) : ℝ) : EReal) * u) := by
  rcases Nat.eq_zero_or_pos w with rfl | hw
  · simp
  · have hp : (0 : EReal) < ((w : ℝ) : EReal) := by exact_mod_cast hw
    rw [if_pos hp, ← EReal.coe_sub, Ideal.exp_coe, ← EReal.coe_mul, ← mul_assoc, ← EReal.coe_mul,
      show ((w : ℝ) : EReal) * (((Real.exp (t - c) : ℝ) : EReal) * u) = (((w : ℝ) * Real.exp (t - c) : ℝ) : EReal) * u by rw [EReal.coe_mul, mul_assoc],
      show Real.exp (t - c) = Real.exp (m - c) * Real.exp (t - m) by rw [← Real.exp_add]; congr 1; ring]
    congr 2
    ring

/-- One holder's sum, rescaled to the common shift. -/
theorem holder {I : Type*} [Fintype I] (w : I → ℕ) (t : I → ℝ) (low m c : ℝ) (u : I → EReal) :
    Ideal.exp ((m : EReal) - (c : EReal))
        * ∑ i, Ideal.exp ((if 0 < ((w i : ℝ) : EReal) then (t i : EReal) else (low : EReal)) - (m : EReal)) * ((w i : ℝ) : EReal) * u i
      = ∑ i, ((w i : ℝ) : EReal) * (((Real.exp (t i - c) : ℝ) : EReal) * u i) := by
  rw [← EReal.coe_sub, Ideal.exp_coe, coe_mul_sum _ (Real.exp_pos _).le]
  exact Finset.sum_congr rfl fun i _ => place ..

/-- The weighted values of the live keys, at a shift. -/
def above {J : Type*} (live : Finset J) (score : J → ℝ) (c : ℝ) (val : J → EReal) : EReal := ∑ j ∈ live, ((Real.exp (score j - c) : ℝ) : EReal) * val j
/-- Their weights. -/
def below {J : Type*} (live : Finset J) (score : J → ℝ) (c : ℝ) : ℝ := ∑ j ∈ live, Real.exp (score j - c)

/-- What the holders' sums make together. -/
theorem dealt {J Z I : Type*} [Fintype Z] [Fintype I] [DecidableEq Z] [DecidableEq I] (live : Finset J) (score : J → ℝ) (val : J → EReal)
    (dest : J → Z × I) (t : Z → I → ℝ) (u : Z → I → EReal) (ht : ∀ j ∈ live, t (dest j).1 (dest j).2 = score j)
    (hu : ∀ j ∈ live, u (dest j).1 (dest j).2 = val j) (low : ℝ) (m : Z → ℝ) (c : ℝ) (w : Z → I → ℕ)
    (hw : ∀ z i, w z i = (live.filter fun j => dest j = (z, i)).card) :
    ∑ z, Ideal.exp ((m z : EReal) - (c : EReal))
        * ∑ i, Ideal.exp ((if 0 < ((w z i : ℝ) : EReal) then (t z i : EReal) else (low : EReal)) - (m z : EReal)) * ((w z i : ℝ) : EReal) * u z i
      = above live score c val := by
  rw [Finset.sum_congr rfl fun z _ => holder (w z) (t z) low (m z) c (u z)]
  rw [← Fintype.sum_prod_type' (f := fun z i => ((w z i : ℝ) : EReal) * (((Real.exp (t z i - c) : ℝ) : EReal) * u z i))]
  rw [Finset.sum_congr rfl fun p _ => by rw [hw p.1 p.2]]
  rw [sum_counted live dest fun p => ((Real.exp (t p.1 p.2 - c) : ℝ) : EReal) * u p.1 p.2]
  exact Finset.sum_congr rfl fun j hj => by rw [ht j hj, hu j hj]

theorem below_pos {J : Type*} (live : Finset J) (hne : live.Nonempty) (score : J → ℝ) (c : ℝ) : 0 < below live score c :=
  Finset.sum_pos (fun _ _ => Real.exp_pos _) hne

theorem above_one {J : Type*} (live : Finset J) (score : J → ℝ) (c : ℝ) : above live score c (fun _ => 1) = (below live score c : EReal) := by
  unfold above below
  rw [← coe_sum]
  exact Finset.sum_congr rfl fun j _ => mul_one _

/-- A largest score is a real, when none is `⊤` and one is a real. -/
theorem fold_max_real {J : Type*} (s : Finset J) (f : J → EReal) (htop : ∀ j ∈ s, f j < ⊤) (hreal : ∃ j ∈ s, ⊥ < f j) :
    ∃ r : ℝ, s.fold max ⊥ f = (r : EReal) := by
  have h1 : s.fold max ⊥ f < ⊤ := (Finset.fold_max_lt _).2 ⟨bot_lt_top, htop⟩
  have h2 : ⊥ < s.fold max ⊥ f := (Finset.lt_fold_max _).2 (.inr hreal)
  exact ⟨_, (EReal.coe_toReal h1.ne h2.ne').symm⟩

/-- The softmax average over all the keys, the dead ones at `⊥`. -/
theorem average {J : Type*} [Fintype J] [DecidableEq J] (live : Finset J) (hne : live.Nonempty) (score : J → ℝ) (val : J → EReal) (s : J → EReal)
    (hs : ∀ j, s j = if j ∈ live then (score j : EReal) else ⊥) (c : ℝ) :
    ∑ j, val j * Ideal.div (Ideal.exp (s j - Finset.univ.fold max ⊥ s)) (∑ j, Ideal.exp (s j - Finset.univ.fold max ⊥ s))
      = Ideal.div (above live score c val) (below live score c) := by
  obtain ⟨M, hM⟩ := fold_max_real Finset.univ s (fun j _ => by rw [hs]; split_ifs; exacts [EReal.coe_lt_top _, bot_lt_top])
    (hne.imp fun j hj => ⟨Finset.mem_univ _, by rw [hs, if_pos hj]; exact EReal.bot_lt_coe _⟩)
  rw [hM]
  have he (j : J) : Ideal.exp (s j - (M : EReal)) = (((if j ∈ live then Real.exp (score j - M) else 0 : ℝ)) : EReal) := by
    rw [hs]
    split_ifs
    · rw [← EReal.coe_sub, Ideal.exp_coe]
    · rw [EReal.bot_sub, Ideal.exp_bot, EReal.coe_zero]
  have hsum : ∑ j, Ideal.exp (s j - (M : EReal)) = (below live score M : EReal) := by
    rw [Finset.sum_congr rfl fun j _ => he j, coe_sum]
    unfold below
    rw [Finset.sum_ite_mem, Finset.univ_inter]
  rw [hsum, Ideal.div_coe (below_pos live hne score c).ne', mul_comm, above,
    coe_mul_sum _ (one_div_nonneg.2 (below_pos live hne score c).le)]
  rw [← Finset.sum_subset (Finset.subset_univ live)]
  · refine Finset.sum_congr rfl fun j hj => ?_
    rw [Ideal.div_coe (below_pos live hne score M).ne', he, if_pos hj, ← EReal.coe_mul, mul_comm, ← mul_assoc, ← EReal.coe_mul]
    congr 2
    have hx : below live score c = Real.exp (M - c) * below live score M := by
      unfold below
      rw [Finset.mul_sum]
      exact Finset.sum_congr rfl fun j _ => by rw [← Real.exp_add]; congr 1; ring
    have hy : Real.exp (score j - c) = Real.exp (M - c) * Real.exp (score j - M) := by rw [← Real.exp_add]; congr 1; ring
    have h1 := (below_pos live hne score M).ne'
    have h2 := (Real.exp_pos (M - c)).ne'
    rw [hx, hy]
    field_simp
  · intro j _ hj
    rw [Ideal.div_coe (below_pos live hne score M).ne', he, if_neg hj, EReal.coe_zero, zero_mul, mul_zero]

end Cert.Softmax

end
-- ==== Proof.Told.lean ====
/-
The table that a device tells, over the extended reals, where the queries and its keys are real: for each sequence and head its
greatest score, the sum of its weights and the weighted sum of its values.
-/
module

public import proofs.«01_k».proof.Proof.Held
public import proofs.«01_k».proof.Proof.Softmax

@[expose] public section

set_option maxRecDepth 16384

noncomputable section

namespace Cert.KernelIdeal.Exchange

open Idealize.ShloMosaic Idealize.ShloMosaic.TcCoe
open Cert.KernelIdeal Cert.KernelIdeal.Gen

/-- The score that stands for a key that is not asked for. -/
def low : ℝ := Classical.choose low_real

theorem low_eq : Ideal.ofBits FTy.f32 0xF149F2CA#32 = (low : EReal) := Classical.choose_spec low_real

/-- The score of a key against the query of sequence `b` and head `h`. -/
def rate (Q : S8x1x8x64.Idx → ℝ) (b h : Fin 8) (key : Fin 64 → ℝ) : ℝ := (∑ e, Q (ix4 b 0 h e) * key e) * (1 / 8)

/-- The row of sequence `b` and head `h`. -/
abbrev rowOf (b h : Fin 8) : Fin 64 := ⟨h.val * 8 + b.val, by omega⟩

/-- The column of coordinate `d` of head `h`. -/
abbrev colOf (h : Fin 8) (d : Fin 64) : Fin 512 := ⟨h.val * 64 + d.val, by omega⟩

theorem table_stats (num : S64x512.Idx → EReal) (ml : S64x64.Idx → EReal) (r x : Fin 64) :
    table (F := Ideal) num ml (ix2 ⟨64 + r.val, by omega⟩ x) = ml (ix2 r x) := by
  refine (dif_neg (show ¬ 64 + r.val < 64 by omega)).trans ?_
  refine congrArg ml (congr (congrArg ix2 (Fin.ext ?_)) rfl)
  show 64 + r.val - 64 = r.val
  omega

theorem table_sums (num : S64x512.Idx → EReal) (ml : S64x64.Idx → EReal) (b h : Fin 8) (d : Fin 64) :
    table (F := Ideal) num ml (ix2 ⟨h.val * 8 + b.val, by omega⟩ d) = num (ix2 (rowOf b h) (colOf h d)) := by
  refine (dif_pos (show h.val * 8 + b.val < 64 by omega)).trans ?_
  refine congrArg num (congrArg (ix2 _) (Fin.ext ?_))
  show (h.val * 8 + b.val) / 8 * 64 + d.val = h.val * 64 + d.val
  omega

theorem product (Q : S8x1x8x64.Idx → ℝ) (K : S1024x512.Idx → ℝ) (b h : Fin 8) (i : Fin 1024) :
    ∑ x : Fin 512, queries (F := Ideal) (fun j => (Q j : EReal)) (ix2 (rowOf b h) x) * (K (ix2 i x) : EReal)
      = (rate Q b h fun e => K (ix2 i (colOf h e)) : EReal) := by
  rw [queries_eq]
  refine (Fintype.sum_of_injective (colOf h) (fun d d' e => Fin.ext ?_)
    (fun d => ((Q (ix4 b 0 h d) * (1 / 8) * K (ix2 i (colOf h d)) : ℝ) : EReal)) _ (fun x hx => ?_) fun d => ?_).symm.trans ?_
  · have := congrArg Fin.val e
    simp only [colOf] at this
    omega
  · refine Eq.trans (congrArg (· * _) (if_neg ?_)) (zero_mul _)
    intro e
    refine hx ⟨⟨x.val % 64, by omega⟩, Fin.ext ?_⟩
    have e' : x.val / 64 = (h.val * 8 + b.val) / 8 := e
    show h.val * 64 + x.val % 64 = x.val
    omega
  · rw [EReal.coe_mul, EReal.coe_mul, ← eighth]
    refine congrArg (· * _) (Eq.trans ?_ (if_pos (show (h.val * 64 + d.val) / 64 = (h.val * 8 + b.val) / 8 by omega)).symm)
    refine congrArg (fun j => (Q j : EReal) * _) ?_
    refine congr (congr (congr (congrArg ix4 (Fin.ext ?_)) rfl) (Fin.ext ?_)) (Fin.ext ?_)
    · show b.val = (h.val * 8 + b.val) % 8; omega
    · show h.val = (h.val * 8 + b.val) / 8; omega
    · show d.val = (h.val * 64 + d.val) % 64; omega
  · refine (Softmax.coe_sum _ _).trans ?_
    refine congrArg _ ?_
    unfold rate
    rw [Finset.sum_mul]
    exact Finset.sum_congr rfl fun d _ => by ring

/-- How often key `i` of device `c` is asked for by sequence `b`. -/
abbrev wanted (c : Dev nD) (bt : S8x64.Idx → BitVec 32) (lens : S8x1.Idx → BitVec 32) (b : Fin 8) (i : Fin 1024) : ℕ :=
  asked (fun s => bt (ix2 b s)) (lens (ix2 b 0)) ((pos c).val * 64 + i.val / 16)

/-- The score as a device counts it. -/
abbrev counted (c : Dev nD) (bt : S8x64.Idx → BitVec 32) (lens : S8x1.Idx → BitVec 32) (Q : S8x1x8x64.Idx → ℝ) (K : S1024x512.Idx → ℝ)
    (b h : Fin 8) (i : Fin 1024) : EReal :=
  if 0 < ((wanted c bt lens b i : ℝ) : EReal) then (rate Q b h fun e => K (ix2 i (colOf h e)) : EReal) else (low : EReal)

section
variable (c : Dev nD) (bt : S8x64.Idx → BitVec 32) (lens : S8x1.Idx → BitVec 32) (Q : S8x1x8x64.Idx → ℝ) (K : S1024x512.Idx → ℝ)
  (v : S1024x512.Idx → EReal) (b h : Fin 8)

theorem wanted_eq (i : Fin 1024) : weights (F := Ideal) c bt lens (ix2 (rowOf b h) i) = ((wanted c bt lens b i : ℝ) : EReal) := by
  rw [weights_apply]
  have e1 : (⟨(rowOf b h).val % 8, by omega⟩ : Fin 8) = b := Fin.ext (by show (h.val * 8 + b.val) % 8 = _; omega)
  rw [e1]

theorem counted_eq (i : Fin 1024) : k0_pay17 (F := Ideal) (weights c bt lens) (queries fun j => (Q j : EReal)) (fun j => (K j : EReal)) (ix2 (rowOf b h) i)
    = counted c bt lens Q K b h i := by
  pointwise [k0_pay17]
  rw [wanted_eq, product, low_eq]

theorem greatest : ∃ m : ℝ, k0_pay18 (F := Ideal) (weights c bt lens) (queries fun j => (Q j : EReal)) (fun j => (K j : EReal)) (ix2 (rowOf b h) 0) = (m : EReal) := by
  pointwise [k0_pay18]
  rw [bottom]
  have hr (i : Fin 1024) : ∃ r : ℝ, counted c bt lens Q K b h i = (r : EReal) := by
    unfold counted; split <;> exact ⟨_, rfl⟩
  refine Softmax.fold_max_real _ _ (fun i _ => ?_) ⟨0, Finset.mem_univ _, ?_⟩
  · obtain ⟨r, e⟩ := hr i
    rw [counted_eq, e]; exact EReal.coe_lt_top r
  · obtain ⟨r, e⟩ := hr 0
    rw [counted_eq, e]; exact EReal.bot_lt_coe r

/-- The three entries of a told table that the merge reads. -/
theorem tell_apply : ∃ m : ℝ,
    tell (F := Ideal) c (fun j => (Q j : EReal)) (fun j => (K j : EReal)) v bt lens (ix2 ⟨64 + (h.val * 8 + b.val), by omega⟩ 0) = (m : EReal)
    ∧ tell (F := Ideal) c (fun j => (Q j : EReal)) (fun j => (K j : EReal)) v bt lens (ix2 ⟨64 + (h.val * 8 + b.val), by omega⟩ 32)
      = ∑ i, Ideal.exp (counted c bt lens Q K b h i - (m : EReal)) * ((wanted c bt lens b i : ℝ) : EReal)
    ∧ ∀ d, tell (F := Ideal) c (fun j => (Q j : EReal)) (fun j => (K j : EReal)) v bt lens (ix2 ⟨h.val * 8 + b.val, by omega⟩ d)
      = ∑ i, Ideal.exp (counted c bt lens Q K b h i - (m : EReal)) * ((wanted c bt lens b i : ℝ) : EReal) * v (ix2 i (colOf h d)) := by
  obtain ⟨m, hm⟩ := greatest c bt lens Q K b h
  have h19 (i : Fin 1024) : k0_pay19 (F := Ideal) (weights c bt lens) (queries fun j => (Q j : EReal)) (fun j => (K j : EReal)) (ix2 (rowOf b h) i)
      = Ideal.exp (counted c bt lens Q K b h i - (m : EReal)) * ((wanted c bt lens b i : ℝ) : EReal) := by
    pointwise [k0_pay19]
    rw [counted_eq, hm, wanted_eq]
  have hlow (x : Fin 64) : table (F := Ideal) (k0_pay21 (weights c bt lens) (queries fun j => (Q j : EReal)) (fun j => (K j : EReal)) v)
      (k0_pay30 (k0_pay18 (weights c bt lens) (queries fun j => (Q j : EReal)) (fun j => (K j : EReal)))
        (k0_pay20 (weights c bt lens) (queries fun j => (Q j : EReal)) (fun j => (K j : EReal)))) (ix2 ⟨64 + (h.val * 8 + b.val), by omega⟩ x)
      = k0_pay30 (F := Ideal) (k0_pay18 (weights c bt lens) (queries fun j => (Q j : EReal)) (fun j => (K j : EReal)))
        (k0_pay20 (weights c bt lens) (queries fun j => (Q j : EReal)) (fun j => (K j : EReal))) (ix2 (rowOf b h) x) :=
    table_stats _ _ (rowOf b h) x
  refine ⟨m, ?_, ?_, fun d => ?_⟩
  · unfold tell
    rw [hlow]
    pointwise [k0_pay30]
    exact hm
  · unfold tell
    rw [hlow]
    pointwise [k0_pay30]
    rw [show IntOp.cmpi .slt 32#32 32#32 = 0#1 by decide]
    refine Eq.trans (if_neg (by decide)) ?_
    pointwise [k0_pay20]
    exact Finset.sum_congr rfl fun i _ => h19 i
  · unfold tell
    rw [table_sums]
    pointwise [k0_pay21]
    exact Finset.sum_congr rfl fun i _ => congrArg (· * _) (h19 i)

end

end Cert.KernelIdeal.Exchange

end
-- ==== Proof.Average.lean ====
/-
The reference's result, read entry by entry: the attention average over the live slots' keys.
-/
module

public import proofs.«01_k».proof.Proof.Told
public import proofs.«01_k».proof.Proof.Gen.ReferenceIdeal.Run
public import Idealize.ShloMosaic.Lib.Tactic.CleanTypes

@[expose] public section

set_option maxRecDepth 16384

noncomputable section

namespace Cert.ReferenceIdeal.Average

open Idealize.ShloMosaic Idealize.ShloMosaic.TcCoe
open Cert.ReferenceIdeal Cert.ReferenceIdeal.Gen Cert.ReferenceIdeal.Value
open Cert.KernelIdeal.Exchange (live rate eighth bottom)

/-- The gather reads the page that its start index names. -/
theorem gather_page {α : Type} (x : S256x16x8x64.Idx → α) (idx : IVec S8x64x1 32) (b : Fin 8) (s : Fin 64) (o : Fin 16) (h : Fin 8) (e : Fin 64)
    (p : Fin 256) (hp : idx (ix3 b s 0) = BitVec.ofNat 32 p.val) :
    Host.gather gather_S256x16x8x64_S8x64x1_S8x64x16x8x64_234_0_n_n_0_2_116864 x idx (ix5 b s o h e) = x (ix4 p o h e) := by
  unfold Host.gather
  refine congrArg x (funext fun a => Fin.ext ?_)
  match a with
  | ⟨0, _⟩ =>
    show min (idx _).toInt.toNat (256 - 1) + 0 + 0 = p.val
    have hi : gather_S256x16x8x64_S8x64x1_S8x64x16x8x64_234_0_n_n_0_2_116864.siIdx (ix5 b s o h e) ⟨0, by decide⟩ = ix3 b s 0 := by
      funext a
      match a with
      | ⟨0, _⟩ => rfl
      | ⟨1, _⟩ => rfl
      | ⟨2, _⟩ => rfl
    refine (congrArg (fun w : BitVec 32 => min w.toInt.toNat (256 - 1) + 0 + 0) ((congrArg idx hi).trans hp)).trans ?_
    show min (BitVec.ofNat 32 p.val).toInt.toNat 255 + 0 + 0 = p.val
    clear hp; revert p; decide +kernel
  | ⟨1, _⟩ => exact Nat.zero_add o.val
  | ⟨2, _⟩ => exact Nat.zero_add h.val
  | ⟨3, _⟩ => exact Nat.zero_add e.val

/-- A start index that names a page is not negative, so it is not moved. -/
theorem start_index (T : IVec S8x64 32) (b : Fin 8) (s : Fin 64) (p : Fin 256) (hp : T (ix2 b s) = BitVec.ofNat 32 p.val) :
    broadcastInDim S8x64x1 ![0, 1] bcast_S8x64_S8x64x1_0_1 (select (cmpi .slt T (broadcastInDim S8x64 ![] bcast_S_S8x64 (constantI S_ 32 0#32)))
      (addi T (broadcastInDim S8x64 ![] bcast_S_S8x64 (constantI S_ 32 256#32))) T) (ix3 b s 0) = BitVec.ofNat 32 p.val := by
  pointwise
  rw [hp]
  clear hp
  revert p; decide +kernel

/-- The keys of sequence `b`'s live slots: key `x` is in slot `x / 16`. -/
def keys (L : IVec S8 32) (b : Fin 8) : Finset (Fin 1024) := Finset.univ.filter fun x => live (L (ix1 b)) (x.val / 16)

/-- Where key `x` of sequence `b` is held. -/
abbrev spot (P : Fin 8 → Fin 64 → Fin 256) (b : Fin 8) (x : Fin 1024) (h : Fin 8) (e : Fin 64) : S256x16x8x64.Idx :=
  ix4 (P b ⟨x.val / 16, by omega⟩) ⟨x.val % 16, by omega⟩ h e

theorem value (m : (ℓ : Loc nD τ sig) → Buf (Elt Ideal) ℓ) (c : Dev nD) (Q : S8x1x8x64.Idx → ℝ) (K : S256x16x8x64.Idx → ℝ) (V : FVec Ideal S256x16x8x64 .f32)
    (T : IVec S8x64 32) (L : IVec S8 32) (P : Fin 8 → Fin 64 → Fin 256)
    (hQ : m ((c.tc : Thread nD τ).loc main_arg0) = fun i => (Q i : EReal)) (hK : m ((c.tc : Thread nD τ).loc main_arg1) = fun i => (K i : EReal))
    (hV : m ((c.tc : Thread nD τ).loc main_arg2) = V) (hT : m ((c.tc : Thread nD τ).loc main_arg3) = T) (hL : m ((c.tc : Thread nD τ).loc main_arg4) = L)
    (hP : ∀ b (s : Fin 64), live (L (ix1 b)) s.val → T (ix2 b s) = BitVec.ofNat 32 (P b s).val)
    (b h : Fin 8) (d : Fin 64) (hne : (keys L b).Nonempty) (top : ℝ) :
    res_main_v36 (F := Ideal) m c (ix4 b 0 h d)
      = Ideal.div (Softmax.above (keys L b) (fun x => rate Q b h fun e => K (spot P b x h e)) top fun x => V (spot P b x h d))
          (Softmax.below (keys L b) (fun x => rate Q b h fun e => K (spot P b x h e)) top) := by
  unfold res_main_v36
  rw [hQ, hK, hV, hT, hL]
  clean_types
  pointwise
  have mem (x : Fin 1024) : x ∈ keys L b ↔ live (L (ix1 b)) (x.val / 16) := by simp [keys]
  have held {α : Type} (A : S256x16x8x64.Idx → α) (x : Fin 1024) (hx : x ∈ keys L b) (e : Fin 64) :=
    gather_page A _ b ⟨x.val / 16, by omega⟩ ⟨x.val % 16, by omega⟩ h e (P b ⟨x.val / 16, by omega⟩) (start_index T b _ _ (hP b ⟨x.val / 16, by omega⟩ ((mem x).1 hx)))
  rw [bottom]
  refine (Softmax.average (keys L b) hne (fun x => rate Q b h fun e => K (spot P b x h e)) _ _ (fun x => ?_) top).trans ?_
  · unfold Scalar.select
    refine (if_congr (mem x).symm rfl rfl).trans ?_
    by_cases hx : x ∈ keys L b
    · rw [if_pos hx, if_pos hx, eighth]
      unfold rate
      rw [EReal.coe_mul, ← Softmax.coe_sum]
      refine congrArg (· * _) (Finset.sum_congr rfl fun e _ => ?_)
      rw [held _ x hx e, EReal.coe_mul]
    · rw [if_neg hx, if_neg hx]
      exact bottom
  · refine congrArg (Ideal.div · _) ?_
    unfold Softmax.above
    exact Finset.sum_congr rfl fun x hx => congrArg (_ * ·) (held V x hx d)

end Cert.ReferenceIdeal.Average

end
-- ==== Proof.Joined.lean ====
/-
The merge of four tables, and with it the program's result: what the four holders of a row tell makes the average over all live slots.
-/
module

public import proofs.«01_k».proof.Proof.Average

@[expose] public section

set_option maxRecDepth 16384

noncomputable section

namespace Cert.KernelIdeal.Exchange

open Idealize.ShloMosaic Idealize.ShloMosaic.TcCoe
open Cert.KernelIdeal Cert.KernelIdeal.Gen
open Cert.ReferenceIdeal (S256x16x8x64)
open Cert.ReferenceIdeal.Average (keys spot)

/-- The merge, read: the holders' sums scaled to one greatest score, and divided. -/
theorem merge_apply (s : Fin 4 → S128x64.Idx → EReal) (m : Fin 4 → ℝ) (b h : Fin 8) (d : Fin 64)
    (hm : ∀ z, s z (ix2 ⟨64 + (h.val * 8 + b.val), by omega⟩ 0) = (m z : EReal)) :
    ∃ top : ℝ, merge (F := Ideal) (s 0) (s 1) (s 2) (s 3) (ix4 b 0 h d)
      = Ideal.div (∑ z, Ideal.exp ((m z : EReal) - (top : EReal)) * s z (ix2 ⟨h.val * 8 + b.val, by omega⟩ d))
          (∑ z, Ideal.exp ((m z : EReal) - (top : EReal)) * s z (ix2 ⟨64 + (h.val * 8 + b.val), by omega⟩ 32)) := by
  refine ⟨max (max (m 0) (m 1)) (max (m 2) (m 3)), ?_⟩
  pointwise [merge, k0_pay1, k0_pay45, k0_pay46, k0_pay48, k0_pay49, shift, maxima, sums]
  rw [Finset.sum_eq_single (⟨h.val * 8 + b.val, by omega⟩ : Fin 64)]
  · rw [flag, row_word, if_pos rfl, one_mul]
    rw [Fin.sum_univ_four, Fin.sum_univ_four]
    simp only [EReal.coe_strictMono.monotone.map_max, ← hm]
  · intro x _ hx
    rw [flag, row_word, if_neg (fun e => hx (Fin.ext ((ofNat_inj (by omega) (by omega)).1 e))), zero_mul]
  · exact fun hx => absurd (Finset.mem_univ _) hx

/-- The keys or values of the device at place `z`, of the whole array's. -/
def slab {α : Type} (A : S256x16x8x64.Idx → α) (z : Fin 4) : S1024x512.Idx → α := fun i =>
  A (ix4 ⟨z.val * 64 + (i 0).val / 16, by have : (i 0).val < 1024 := (i 0).isLt; omega⟩ ⟨(i 0).val % 16, by omega⟩
    ⟨(i 1).val / 64, by have : (i 1).val < 512 := (i 1).isLt; omega⟩ ⟨(i 1).val % 64, by omega⟩)

theorem slab_apply {α : Type} (A : S256x16x8x64.Idx → α) (z : Fin 4) (i : Fin 1024) (h : Fin 8) (e : Fin 64) :
    slab A z (ix2 i (colOf h e)) = A (ix4 ⟨z.val * 64 + i.val / 16, by omega⟩ ⟨i.val % 16, by omega⟩ h e) := by
  refine congrArg A (congr (congrArg (ix4 _ _) (Fin.ext ?_)) (Fin.ext ?_))
  · show (h.val * 64 + e.val) / 64 = h.val; omega
  · show (h.val * 64 + e.val) % 64 = e.val; omega

/-- The device and the key on it that hold key `x` of sequence `b`. -/
def holderOf (P : Fin 8 → Fin 64 → Fin 256) (b : Fin 8) (x : Fin 1024) : Fin 4 × Fin 1024 :=
  (⟨(P b ⟨x.val / 16, by omega⟩).val / 64, by omega⟩, ⟨(P b ⟨x.val / 16, by omega⟩).val % 64 * 16 + x.val % 16, by omega⟩)

theorem slab_holder {α : Type} (A : S256x16x8x64.Idx → α) (P : Fin 8 → Fin 64 → Fin 256) (b : Fin 8) (x : Fin 1024) (h : Fin 8) (e : Fin 64) :
    slab A (holderOf P b x).1 (ix2 (holderOf P b x).2 (colOf h e)) = A (spot P b x h e) := by
  rw [slab_apply]
  unfold holderOf spot
  refine congrArg A (congr (congr (congr (congrArg ix4 (Fin.ext ?_)) (Fin.ext ?_)) rfl) rfl)
  · show (P b ⟨x.val / 16, _⟩).val / 64 * 64 + ((P b ⟨x.val / 16, _⟩).val % 64 * 16 + x.val % 16) / 16 = _
    omega
  · show ((P b ⟨x.val / 16, _⟩).val % 64 * 16 + x.val % 16) % 16 = x.val % 16
    omega

/-- A key is asked for once for each key of a live slot that it holds. -/
theorem asked_eq (T : S8x64.Idx → BitVec 32) (L : Shape.Idx ⟨1, ![8]⟩ → BitVec 32) (P : Fin 8 → Fin 64 → Fin 256)
    (hP : ∀ b (s : Fin 64), live (L (ix1 b)) s.val → T (ix2 b s) = BitVec.ofNat 32 (P b s).val) (b : Fin 8) (z : Fin 4) (i : Fin 1024) :
    asked (fun s => T (ix2 b s)) (L (ix1 b)) (z.val * 64 + i.val / 16) = ((keys L b).filter fun x => holderOf P b x = (z, i)).card := by
  unfold asked keys
  refine Finset.card_nbij' (fun s => ⟨s.val * 16 + i.val % 16, by omega⟩) (fun x => ⟨x.val / 16, by omega⟩) ?_ ?_ ?_ ?_
  · intro s hs
    simp only [Finset.coe_filter, Finset.mem_univ, true_and, Set.mem_setOf_eq, Finset.mem_filter] at hs ⊢
    obtain ⟨h1, h2⟩ := hs
    have e1 : (s.val * 16 + i.val % 16) / 16 = s.val := by omega
    have e2 : (s.val * 16 + i.val % 16) % 16 = i.val % 16 := by omega
    have hp : (P b s).val = z.val * 64 + i.val / 16 := (ofNat_inj (by omega) (by omega)).1 ((hP b s h2).symm.trans h1)
    refine ⟨by rw [e1]; exact h2, ?_⟩
    unfold holderOf
    simp only [e1, e2, Fin.eta, Prod.mk.injEq, Fin.ext_iff, hp]
    omega
  · intro x hx
    simp only [Finset.coe_filter, Finset.mem_univ, true_and, Set.mem_setOf_eq, Finset.mem_filter] at hx ⊢
    obtain ⟨h1, h2⟩ := hx
    refine ⟨?_, h1⟩
    rw [hP b ⟨x.val / 16, by omega⟩ h1]
    unfold holderOf at h2
    simp only [Prod.mk.injEq, Fin.ext_iff] at h2
    refine congrArg _ ?_
    omega
  · intro s _
    exact Fin.ext (by show (s.val * 16 + i.val % 16) / 16 = s.val; omega)
  · intro x hx
    simp only [Finset.coe_filter, Finset.mem_univ, true_and, Set.mem_setOf_eq, Finset.mem_filter] at hx
    have h2 := hx.2
    unfold holderOf at h2
    simp only [Prod.mk.injEq, Fin.ext_iff] at h2
    refine Fin.ext ?_
    show x.val / 16 * 16 + i.val % 16 = x.val
    omega

theorem pos_rowDev (c : Dev nD) (z : Fin 4) : pos (rowDev c z) = z := by
  revert c z; decide +kernel

section
variable (X : Dev nD → S128x64.Idx → EReal) (Q : S8x1x8x64.Idx → ℝ) (K : S256x16x8x64.Idx → ℝ) (V : S256x16x8x64.Idx → EReal)
  (T : S8x64.Idx → BitVec 32) (L : Shape.Idx ⟨1, ![8]⟩ → BitVec 32) (P : Fin 8 → Fin 64 → Fin 256)

/-- Where every device tells its table, the result is the average over the live slots' keys. -/
theorem result_apply
    (hX : ∀ c, X c = tell (F := Ideal) c (fun j => (Q j : EReal)) (fun j => ((slab K (pos c) j : ℝ) : EReal)) (slab V (pos c)) T (fun j => L (ix1 (j 0))))
    (hP : ∀ b (s : Fin 64), live (L (ix1 b)) s.val → T (ix2 b s) = BitVec.ofNat 32 (P b s).val) (c : Dev nD) (b h : Fin 8) (d : Fin 64) :
    ∃ top : ℝ, result (F := Ideal) X c (ix4 b 0 h d)
      = Ideal.div (Softmax.above (keys L b) (fun x => rate Q b h fun e => K (spot P b x h e)) top fun x => V (spot P b x h d))
          (Softmax.below (keys L b) (fun x => rate Q b h fun e => K (spot P b x h e)) top) := by
  have told (z : Fin 4) := tell_apply (rowDev c z) T (fun j => L (ix1 (j 0))) Q (slab K (pos (rowDev c z))) (slab V (pos (rowDev c z))) b h
  choose m hm hl hn using told
  simp only [← hX] at hm hl hn
  obtain ⟨top, ht⟩ := merge_apply (fun z => X (rowDev c z)) m b h d hm
  refine ⟨top, ht.trans ?_⟩
  simp only [hl, hn, wanted, counted, pos_rowDev]
  have hd (val : Fin 1024 → EReal) (u : Fin 4 → Fin 1024 → EReal) (hu : ∀ x ∈ keys L b, u (holderOf P b x).1 (holderOf P b x).2 = val x) :=
    Softmax.dealt (keys L b) (fun x => rate Q b h fun e => K (spot P b x h e)) val (holderOf P b)
      (fun z i => rate Q b h fun e => slab K z (ix2 i (colOf h e))) u
      (fun x _ => congrArg (rate Q b h) (funext fun e => slab_holder K P b x h e)) hu low m top _ (fun z i => asked_eq T L P hP b z i)
  refine congr (congrArg Ideal.div ?_) ?_
  · exact hd _ (fun z i => slab V z (ix2 i (colOf h d))) fun x _ => slab_holder V P b x h d
  · rw [← Softmax.above_one]
    refine Eq.trans ?_ (hd _ (fun _ _ => 1) fun _ _ => rfl)
    simp only [mul_one]
    rfl

end

end Cert.KernelIdeal.Exchange

end
-- ==== Proof.Given.lean ====
/-
What the precondition says: the queries and a device's keys are real, every sequence has a live slot, and every live slot names a page.
-/
module

public import proofs.«01_k».proof.Proof.Words
public import proofs.«01_k».proof.Pre_well_formed_KernelIdeal
public import proofs.«01_k».proof.Pre_well_formed_ReferenceIdeal
public import Idealize.ShloMosaic.Lib.ReduceAll

@[expose] public section

set_option maxRecDepth 16384

noncomputable section

namespace Cert.Given

open Idealize.ShloMosaic
open Cert.Pre_well_formed_KernelIdeal

theorem facts_kernel : Cert.Pre_well_formed_KernelIdeal.Facts :=
  ⟨by decide, by decide, by decide, by decide, by decide, by decide, by decide, by decide, by decide, by decide, by decide⟩

theorem facts_reference : Cert.Pre_well_formed_ReferenceIdeal.Facts :=
  ⟨by decide, by decide, by decide, by decide, by decide, by decide, by decide, by decide, by decide, by decide, by decide⟩

theorem both {a b : BitVec 1} : IntOp.andi a b = 1#1 → a = 1#1 ∧ b = 1#1 := by revert a b; decide

theorem top : Ideal.ofBits FTy.f32 0x7F800000#32 = ⊤ := by
  simp [Ideal.ofBits, Ideal.ieee]

theorem real_of {x : EReal} (h : Ideal.cmp .olt (max x (-x)) (Ideal.ofBits FTy.f32 0x7F800000#32) = 1#1) : ∃ r : ℝ, x = (r : EReal) := by
  rw [top] at h
  have hlt : max x (-x) < ⊤ := by
    by_contra hn
    simp [Ideal.cmp, hn] at h
  induction x with
  | bot => simp at hlt
  | top => simp at hlt
  | coe r => exact ⟨r, rfl⟩

theorem decoded [Facts] (Q : FVec Ideal S8x1x8x64 .f32) (K V : FVec Ideal S64x16x8x64 .f32) (T : IVec S8x64 32) (L : IVec S8 32)
    (h : fn (F := Ideal) Q K V T L = fun _ => 1#1) :
    (∀ i, ∃ r : ℝ, Q i = (r : EReal)) ∧ (∀ i, ∃ r : ℝ, K i = (r : EReal)) ∧ (∀ b, IntOp.cmpi .sge (L (ix1 b)) 1#32 = 1#1)
      ∧ ∀ b s, IntOp.ori (IntOp.cmpi .sge (BitVec.ofNat 32 s.val) (L (ix1 b)))
          (IntOp.andi (IntOp.cmpi .sge (T (ix2 b s)) 0#32) (IntOp.cmpi .slt (T (ix2 b s)) 256#32)) = 1#1 := by
  have : Subsingleton S_.Idx := ⟨fun a b => funext fun i => i.elim0⟩
  have h0 := congrFun h ix0
  dsimp only [fn, fn_part1] at h0
  obtain ⟨h1, hT⟩ := both h0
  obtain ⟨h2, hL⟩ := both h1
  obtain ⟨hQ, hK⟩ := both h2
  refine ⟨fun i => real_of (Host.reduce_andi_all _ _ _ _ _ hQ i), fun i => real_of (Host.reduce_andi_all _ _ _ _ _ hK i),
    fun b => Host.reduce_andi_all _ _ _ _ _ hL (ix1 b), fun b s => ?_⟩
  have := Host.reduce_andi_all _ _ _ _ _ hT (ix2 b s)
  refine Eq.trans ?_ this
  pointwise

/-- A word that is not below zero and is below 256 is a page. -/
theorem page_of {w : BitVec 32} (h : IntOp.andi (IntOp.cmpi .sge w 0#32) (IntOp.cmpi .slt w 256#32) = 1#1) : ∃ p : Fin 256, w = BitVec.ofNat 32 p.val := by
  obtain ⟨h1, h2⟩ := both h
  rw [IntOp.cmpi_sge] at h1
  rw [IntOp.cmpi_slt] at h2
  have e0 : (0#32 : BitVec 32).toInt = 0 := by decide
  have e1 : (256#32 : BitVec 32).toInt = 256 := by decide
  rw [e0] at h1
  rw [e1] at h2
  refine ⟨⟨w.toInt.toNat, by omega⟩, BitVec.eq_of_toInt_eq ?_⟩
  rw [BitVec.toInt_ofNat']
  simp only [Int.bmod]
  omega

end Cert.Given

end
-- ==== Proof.Value.lean ====
/-
The call's operands over the extended reals, and the result of the whole program against the reference's: from memories that hold the
same arrays, the keys and values cut over the third mesh axis, every device ends with the reference's result.
-/
module

public import proofs.«01_k».proof.Proof.Joined
public import proofs.«01_k».proof.Proof.Given
public import proofs.«01_k».proof.Proof.Region
public import proofs.«01_k».proof.Proof.Gen.KernelIdeal.Frame
public import Idealize.ShloMosaic.Lib.Layout
public import Idealize.ShloMosaic.Lib.StableHlo.Run

@[expose] public section

set_option maxRecDepth 16384

noncomputable section

namespace Cert.KernelIdeal.Exchange

open Idealize.ShloMosaic Idealize.ShloMosaic.TcCoe
open Cert.KernelIdeal Cert.KernelIdeal.Gen
open Cert.ReferenceIdeal (S256x16x8x64)
open Cert.ReferenceIdeal.Average (keys spot)

/-- What a device holds of an array that is cut over the third mesh axis. -/
abbrev held (c : Dev nD) (A : S256x16x8x64.Idx → EReal) : S64x16x8x64.Idx → EReal :=
  Layout.blockN ⟨4, ![64, 16, 8, 64]⟩ ⟨4, ![256, 16, 8, 64]⟩ (Layout.meshBlock [2, 4, 4] ![[2], [], [], []] c) A

theorem held_apply (c : Dev nD) (A : S256x16x8x64.Idx → EReal) (p : Fin 64) (o : Fin 16) (h : Fin 8) (e : Fin 64) :
    held c A (ix4 p o h e) = A (ix4 ⟨(pos c).val * 64 + p.val, by omega⟩ o h e) := by
  refine congrArg A (funext fun a => Fin.ext ?_)
  match a with
  | ⟨0, _⟩ =>
    show (c.val / 1 % 4 * 1 + 0) * 64 + p.val = c.val % 4 * 64 + p.val
    omega
  | ⟨1, _⟩ => show 0 * 16 + o.val = o.val; omega
  | ⟨2, _⟩ => show 0 * 8 + h.val = h.val; omega
  | ⟨3, _⟩ => show 0 * 64 + e.val = e.val; omega

/-- The two-dimensional form of what a device holds. -/
theorem cast_held (c : Dev nD) (A : S256x16x8x64.Idx → EReal) :
    (truncf (F := Ideal) .bf16 (shapeCast S1024x512 (held c A : FVec Ideal S64x16x8x64 .f32) shapeCasts_S64x16x8x64_S1024x512) bitsLt_bf16_f32
      : S1024x512.Idx → EReal) = slab A (pos c) := by
  funext i
  obtain ⟨x, y, rfl⟩ : ∃ (x : Fin 1024) (y : Fin 512), i = ix2 x y := ⟨i 0, i 1, eq_ix2 i⟩
  generalize hB : held c A = B
  pointwise
  subst hB
  exact held_apply ..

section
variable (m : (ℓ : Loc nD τ sig) → Buf (Elt Ideal) ℓ) (c : Dev nD)

theorem opQ_eq : opQ m c = m ((c.tc : Thread nD τ).loc main_arg0) := V_main_arg0 m c
theorem opT_eq : opT m c = m ((c.tc : Thread nD τ).loc main_arg3) := V_main_arg3 m c

theorem opL_eq (L : S8.Idx → BitVec 32) (h : m ((c.tc : Thread nD τ).loc main_arg4) = L) : opL m c = fun j => L (ix1 (j 0)) := by
  have e : opL m c = shapeCast S8x1 L shapeCasts_S8_S8x1 := by
    subst h
    unfold opL V₁ hostOps0
    after_results
    rfl
  rw [e]
  funext j
  obtain ⟨x, y, rfl⟩ : ∃ (x : Fin 8) (y : Fin 1), j = ix2 x y := ⟨j 0, j 1, eq_ix2 j⟩
  pointwise

theorem opK_eq (A : S256x16x8x64.Idx → EReal) (h : m ((c.tc : Thread nD τ).loc main_arg1) = held c A) : opK m c = slab A (pos c) := by
  rw [← cast_held, ← h]
  unfold opK V₁ hostOps0
  after_results
  rfl

theorem opV_eq (A : S256x16x8x64.Idx → EReal) (h : m ((c.tc : Thread nD τ).loc main_arg2) = held c A) : opV m c = slab A (pos c) := by
  rw [← cast_held, ← h]
  unfold opV V₁ hostOps0
  after_results
  rfl

end

/-- Under the precondition every device ends with the reference's result. -/
theorem agree [Cert.Pre_well_formed_KernelIdeal.Facts] (m : (ℓ : Loc nD τ sig) → Buf (Elt Ideal) ℓ)
    (m' : (ℓ : Loc Cert.ReferenceIdeal.nD Cert.ReferenceIdeal.τ Cert.ReferenceIdeal.sig) → Buf (Elt Ideal) ℓ) (r : Dev Cert.ReferenceIdeal.nD)
    (Q : S8x1x8x64.Idx → EReal) (K V : S256x16x8x64.Idx → EReal) (T : S8x64.Idx → BitVec 32) (L : S8.Idx → BitVec 32)
    (hpre : ∀ c, Cert.Pre_well_formed_KernelIdeal.fn (F := Ideal) Q (held c K) (held c V) T L = fun _ => 1#1)
    (hQ : ∀ c : Dev nD, m ((c.tc : Thread nD τ).loc main_arg0) = Q) (hK : ∀ c : Dev nD, m ((c.tc : Thread nD τ).loc main_arg1) = held c K)
    (hV : ∀ c : Dev nD, m ((c.tc : Thread nD τ).loc main_arg2) = held c V) (hT : ∀ c : Dev nD, m ((c.tc : Thread nD τ).loc main_arg3) = T)
    (hL : ∀ c : Dev nD, m ((c.tc : Thread nD τ).loc main_arg4) = L)
    (hQ' : m' ((r.tc : Thread Cert.ReferenceIdeal.nD Cert.ReferenceIdeal.τ).loc Cert.ReferenceIdeal.main_arg0) = Q)
    (hK' : m' ((r.tc : Thread Cert.ReferenceIdeal.nD Cert.ReferenceIdeal.τ).loc Cert.ReferenceIdeal.main_arg1) = K)
    (hV' : m' ((r.tc : Thread Cert.ReferenceIdeal.nD Cert.ReferenceIdeal.τ).loc Cert.ReferenceIdeal.main_arg2) = V)
    (hT' : m' ((r.tc : Thread Cert.ReferenceIdeal.nD Cert.ReferenceIdeal.τ).loc Cert.ReferenceIdeal.main_arg3) = T)
    (hL' : m' ((r.tc : Thread Cert.ReferenceIdeal.nD Cert.ReferenceIdeal.τ).loc Cert.ReferenceIdeal.main_arg4) = L) (c : Dev nD) :
    output m c = Cert.ReferenceIdeal.Value.res_main_v36 (F := Ideal) m' r := by
  have dec (c : Dev nD) := Cert.Given.decoded Q (held c K) (held c V) T L (hpre c)
  choose Qr hQr using (dec c).1
  have hKr (i : S256x16x8x64.Idx) : ∃ x : ℝ, K i = (x : EReal) := by
    obtain ⟨p, o, h, e, rfl⟩ : ∃ (p : Fin 256) (o : Fin 16) (h : Fin 8) (e : Fin 64), i = ix4 p o h e := ⟨i 0, i 1, i 2, i 3, eq_ix4 i⟩
    obtain ⟨x, hx⟩ := (dec (⟨p.val / 64, by show _ < 32; omega⟩ : Dev nD)).2.1 (ix4 ⟨p.val % 64, by omega⟩ o h e)
    refine ⟨x, Eq.trans ?_ ((held_apply _ K ⟨p.val % 64, by omega⟩ o h e).symm.trans hx)⟩
    refine congrArg (fun q => K (ix4 q o h e)) (Fin.ext ?_)
    show p.val = p.val / 64 % 4 * 64 + p.val % 64
    omega
  choose Kr hKr using hKr
  have hpage (b : Fin 8) (s : Fin 64) : ∃ p : Fin 256, live (L (ix1 b)) s.val → T (ix2 b s) = BitVec.ofNat 32 p.val := by
    by_cases hl : live (L (ix1 b)) s.val
    · have ho := (dec c).2.2.2 b s
      have hn : IntOp.cmpi .sge (BitVec.ofNat 32 s.val) (L (ix1 b)) ≠ 1#1 := by
        intro hge
        rw [IntOp.cmpi_sge] at hge
        have hl' := IntOp.cmpi_slt.1 hl
        omega
      have hor (x y : BitVec 1) : IntOp.ori x y = 1#1 → x ≠ 1#1 → y = 1#1 := by revert x y; decide
      obtain ⟨p, hp⟩ := Cert.Given.page_of (hor _ _ ho hn)
      exact ⟨p, fun _ => hp⟩
    · exact ⟨0, fun h => absurd h hl⟩
  choose P hP using hpage
  have hne (b : Fin 8) : (keys L b).Nonempty := by
    refine ⟨0, Finset.mem_filter.2 ⟨Finset.mem_univ _, IntOp.cmpi_slt.2 ?_⟩⟩
    have h1 := IntOp.cmpi_sge.1 ((dec c).2.2.1 b)
    have e1 : (1#32 : BitVec 32).toInt = 1 := by decide
    show (0#32 : BitVec 32).toInt < _
    rw [e1] at h1
    have e0 : (0#32 : BitVec 32).toInt = 0 := by decide
    omega
  have eQ : Q = fun i => (Qr i : EReal) := funext hQr
  have eK : K = fun i => (Kr i : EReal) := funext hKr
  funext i
  obtain ⟨b, o, h, d, rfl⟩ : ∃ (b : Fin 8) (o : Fin 1) (h : Fin 8) (d : Fin 64), i = ix4 b o h d := ⟨i 0, i 1, i 2, i 3, eq_ix4 i⟩
  obtain rfl : o = 0 := Subsingleton.elim _ _
  obtain ⟨top, ht⟩ := result_apply (told m) Qr Kr V T L P (fun c => by
    show tell c (opQ m c) (opK m c) (opV m c) (opT m c) (opL m c) = _
    rw [opQ_eq, opK_eq m c K (hK c), opV_eq m c V (hV c), opT_eq, opL_eq m c L (hL c), hQ, hT, eQ, eK]
    rfl) hP c b h d
  exact ht.trans (Cert.ReferenceIdeal.Average.value m' r Qr Kr V T L P (hQ'.trans eQ) (hK'.trans eK) hV' hT' hL' hP b h d (hne b) top).symm

end Cert.KernelIdeal.Exchange

end
-- ==== Proof.lean ====
/-
The certificate's claims, assembled. The run of the multi-device program is `Cert.KernelIdeal.Exchange.run_main`, written once
for any floats; the frame of the program as printed is that run at `Bits`, and of its idealization at `Ideal`. The value is
`Cert.KernelIdeal.Exchange.agree`: what that run leaves in the result is the reference's result.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Start
public import proofs.«01_k».proof.Proof.Same
public import proofs.«01_k».proof.Proof.Value
public import Idealize.ShloMosaic.Adequacy
public import Idealize.ShloMosaic.Init

@[expose] public section

noncomputable section

namespace Cert.Proof

open Idealize.ShloMosaic Idealize.SL.Sem
open Cert.KernelIdeal.Exchange (run_main agree)

/-- The program's run keeps its five arguments on every device, and all its counters end at zero. -/
theorem quiet {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run (Cert.KernelIdeal.defs (F := F)) _ _).mono
    (fun _ h => ⟨fun c => ⟨(h.1 c).1, (h.1 c).2.1, (h.1 c).2.2.1, (h.1 c).2.2.2.1, (h.1 c).2.2.2.2.1⟩, h.2⟩) (run_main (F := F) m ρ)

theorem frame_kernel : Cert.quiescent_Kernel := by
  intro m ρ _
  rw [same_defs]
  exact quiet (F := Bits) m ρ

theorem frame_ideal : Cert.quiescent_KernelIdeal := fun m ρ _ => quiet (F := Ideal) m ρ

theorem frame_reference : Cert.quiescent_ReferenceIdeal := fun m ρ _ =>
  (θ_run (Cert.ReferenceIdeal.defs (F := Ideal)) _ _).mono
    (fun r h => ⟨fun c => (h c).2, sem_eq_zero_of_no_sems (by decide) r.2⟩) (Cert.ReferenceIdeal.Value.run (F := Ideal) m ρ)

theorem frame_ideal_pre [Cert.Pre_well_formed_KernelIdeal.Facts] : Cert.quiescent_KernelIdeal_pre_well_formed_KernelIdeal :=
  fun m ρ _ => quiet (F := Ideal) m ρ

theorem frame_reference_pre [Cert.Pre_well_formed_ReferenceIdeal.Facts] : Cert.quiescent_ReferenceIdeal_pre_well_formed_ReferenceIdeal :=
  fun m ρ _ => frame_reference m ρ trivial

/-- The program's result on every device is the reference's. -/
theorem same_result [Cert.Pre_well_formed_KernelIdeal.Facts] : Cert.algebraic_KernelIdeal_ReferenceIdeal_pre_well_formed_KernelIdeal := by
  intro m ρ m' ρ' hpre hm
  refine ⟨Cert.ReferenceIdeal.Value.res_main_v36 (F := Ideal) m' 0, ?_, ?_⟩
  · refine (θ_run (Cert.KernelIdeal.defs (F := Ideal)) _ _).mono (fun r h c => ?_) (run_main (F := Ideal) m ρ)
    obtain ⟨h0, h1, h2, h3, h4, h6⟩ := h.1 c
    refine ⟨h6.trans ?_, h0, h1, h2, h3, h4⟩
    refine agree m m' 0 _ _ _ _ _ (fun c => ?_) (fun c => (hm c).1) (fun c => (hm c).2.1) (fun c => (hm c).2.2.1) (fun c => (hm c).2.2.2.1)
      (fun c => (hm c).2.2.2.2) rfl rfl rfl rfl rfl c
    have hp := hpre c
    rw [(hm c).1, (hm c).2.1, (hm c).2.2.1, (hm c).2.2.2.1, (hm c).2.2.2.2] at hp
    exact hp
  · exact (θ_run (Cert.ReferenceIdeal.defs (F := Ideal)) _ _).mono (fun r h => h 0) (Cert.ReferenceIdeal.Value.run (F := Ideal) m' ρ')

theorem claim : Cert.Claim :=
  ⟨Cert.Kernel.Gen.facts, Cert.KernelIdeal.Gen.facts, Cert.ReferenceIdeal.Gen.facts, Cert.Given.facts_kernel, Cert.Given.facts_reference,
    frame_kernel, frame_ideal, @frame_ideal_pre Cert.Given.facts_kernel, frame_reference, @frame_reference_pre Cert.Given.facts_reference, trivial,
    @same_result Cert.Given.facts_kernel⟩

end Cert.Proof

end
